-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4x1024x4096 : Shape := ⟨3, ![4, 1024, 4096]⟩
abbrev S1024x2048 : Shape := ⟨2, ![1024, 2048]⟩
abbrev S2x4096x256 : Shape := ⟨3, ![2, 4096, 256]⟩
abbrev S2x3 : Shape := ⟨2, ![2, 3]⟩
abbrev S2 : Shape := ⟨1, ![2]⟩
abbrev S2x2 : Shape := ⟨2, ![2, 2]⟩
abbrev S_ : Shape := ⟨0, ![]⟩
abbrev S1x1024x4096 : Shape := ⟨3, ![1, 1024, 4096]⟩
abbrev S1x1 : Shape := ⟨2, ![1, 1]⟩
abbrev S1x512x4096 : Shape := ⟨3, ![1, 512, 4096]⟩
abbrev S512x4096 : Shape := ⟨2, ![512, 4096]⟩
abbrev S1x4096x256 : Shape := ⟨3, ![1, 4096, 256]⟩
abbrev S4096x256 : Shape := ⟨2, ![4096, 256]⟩
abbrev S512x1024 : Shape := ⟨2, ![512, 1024]⟩
abbrev S4096x1024 : Shape := ⟨2, ![4096, 1024]⟩
abbrev S1024x1024 : Shape := ⟨2, ![1024, 1024]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .fp8e4m3⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S1024x4096, .fp8e4m3⟩
  | .local _ .vmem, ⟨1, _⟩ => ⟨S4x1024x4096, .fp8e4m3⟩
  | .local _ .vmem, ⟨2, _⟩ => ⟨S1024x2048, .bf16⟩
  | .local _ .vmem, ⟨3, _⟩ => ⟨S4096x2048, .fp8e4m3⟩
  | .local _ .vmem, ⟨4, _⟩ => ⟨S2x4096x256, .f32⟩
  | .local _ .smem, ⟨0, _⟩ => ⟨S1, .f32⟩
  | .local _ .smem, ⟨1, _⟩ => ⟨S1, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_20 : BitVec 32 := 1#32
  let v20 : BitVec 32 := Scalar.muli v6 c1_i32_20
  let v21 : BitVec 32 := Scalar.addi c0_i32_21 v20
  v21.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_32 : BitVec 32 := 1#32
  let v30 : BitVec 32 := Scalar.muli v4 c1_i32_32
  let v31 : BitVec 32 := Scalar.addi c0_i32_33 v30
  v31.toNat
def k0_off1 : Fin 1 → Nat :=
  let c0_i32_37 : BitVec 32 := 0#32
  let c2_i32_38 : BitVec 32 := 2#32
  let v40 : BitVec 32 := Scalar.remsi c0_i32_37 c2_i32_38
  ![v40.toNat]
def k0_off2 : Fin 3 → Nat :=
  let c0_i32_37 : BitVec 32 := 0#32
  let c2_i32_38 : BitVec 32 := 2#32
  let v40 : BitVec 32 := Scalar.remsi c0_i32_37 c2_i32_38
  let c0_i32_39 : BitVec 32 := 0#32
  let c0_i32_40 : BitVec 32 := 0#32
  ![v40.toNat, 0, 0]
@[reducible] def k0_t1_loop : Scf.Loop 32 :=
  let c0_i32_43 : BitVec 32 := 0#32
  let c8_i32 : BitVec 32 := 8#32
  let v46 : BitVec 32 := Scalar.addi c0_i32_43 c8_i32
  let c1_i32_44 : BitVec 32 := 1#32
  ⟨c0_i32_43, v46, c1_i32_44⟩
def k0_cond1 (k0_t1 : Fin k0_t1_loop.trips) : BitVec 1 :=
  let c0_i32_43 : BitVec 32 := 0#32
  let c1_i32_44 : BitVec 32 := 1#32
  let arg13 : BitVec 32 := Scf.iv c0_i32_43 c1_i32_44 k0_t1
  let c1_i32_187 : BitVec 32 := 1#32
  let v136 : BitVec 32 := Scalar.addi arg13 c1_i32_187
  let c8_i32_188 : BitVec 32 := 8#32
  let v137 : BitVec 1 := Scalar.cmpi .slt v136 c8_i32_188
  let v138 : BitVec 32 := Scalar.extui v137
  let c0_i32_189 : BitVec 32 := 0#32
  let v139 : BitVec 1 := Scalar.cmpi .ne v138 c0_i32_189
  v139

def k0_off3 (k0_t1 : Fin k0_t1_loop.trips) : Fin 1 → Nat :=
  let c0_i32_43 : BitVec 32 := 0#32
  let c1_i32_44 : BitVec 32 := 1#32
  let arg13 : BitVec 32 := Scf.iv c0_i32_43 c1_i32_44 k0_t1
  let c1_i32_199 : BitVec 32 := 1#32
  let v157 : BitVec 32 := Scalar.addi arg13 c1_i32_199
  let c2_i32_200 : BitVec 32 := 2#32
  let v158 : BitVec 32 := Scalar.remsi v157 c2_i32_200
  ![v158.toNat]
def k0_off4 (k0_t1 : Fin k0_t1_loop.trips) : Fin 3 → Nat :=
  let c0_i32_43 : BitVec 32 := 0#32
  let c1_i32_44 : BitVec 32 := 1#32
  let arg13 : BitVec 32 := Scf.iv c0_i32_43 c1_i32_44 k0_t1
  let c1_i32_199 : BitVec 32 := 1#32
  let v157 : BitVec 32 := Scalar.addi arg13 c1_i32_199
  let c2_i32_200 : BitVec 32 := 2#32
  let v158 : BitVec 32 := Scalar.remsi v157 c2_i32_200
  let c0_i32_202 : BitVec 32 := 0#32
  let c0_i32_203 : BitVec 32 := 0#32
  ![v158.toNat, 0, 0]
def k0_off5 (k0_t1 : Fin k0_t1_loop.trips) : Fin 2 → Nat :=
  let c0_i32_204 : BitVec 32 := 0#32
  let c0_i32_43 : BitVec 32 := 0#32
  let c1_i32_44 : BitVec 32 := 1#32
  let arg13 : BitVec 32 := Scf.iv c0_i32_43 c1_i32_44 k0_t1
  let c1_i32_199 : BitVec 32 := 1#32
  let v157 : BitVec 32 := Scalar.addi arg13 c1_i32_199
  let c256_i32_201 : BitVec 32 := 256#32
  let v159 : BitVec 32 := Scalar.muli v157 c256_i32_201
  ![0, v159.toNat]
def k0_off6 (k0_t1 : Fin k0_t1_loop.trips) : Fin 1 → Nat :=
  let c0_i32_43 : BitVec 32 := 0#32
  let c1_i32_44 : BitVec 32 := 1#32
  let arg13 : BitVec 32 := Scf.iv c0_i32_43 c1_i32_44 k0_t1
  let c2_i32_190 : BitVec 32 := 2#32
  let v140 : BitVec 32 := Scalar.remsi arg13 c2_i32_190
  ![v140.toNat]
def k0_off7 (k0_t1 : Fin k0_t1_loop.trips) : Fin 3 → Nat :=
  let c0_i32_43 : BitVec 32 := 0#32
  let c1_i32_44 : BitVec 32 := 1#32
  let arg13 : BitVec 32 := Scf.iv c0_i32_43 c1_i32_44 k0_t1
  let c2_i32_190 : BitVec 32 := 2#32
  let v140 : BitVec 32 := Scalar.remsi arg13 c2_i32_190
  let c0_i32_191 : BitVec 32 := 0#32
  let c0_i32_192 : BitVec 32 := 0#32
  ![v140.toNat, 0, 0]
def k0_off8 (k0_t1 : Fin k0_t1_loop.trips) : Fin 2 → Nat :=
  let c0_i32_193 : BitVec 32 := 0#32
  let c0_i32_43 : BitVec 32 := 0#32
  let c1_i32_44 : BitVec 32 := 1#32
  let arg13 : BitVec 32 := Scf.iv c0_i32_43 c1_i32_44 k0_t1
  let c256_i32 : BitVec 32 := 256#32
  let v141 : BitVec 32 := Scalar.muli arg13 c256_i32
  ![0, v141.toNat]
def k0_off9 (k0_t1 : Fin k0_t1_loop.trips) : Fin 3 → Nat :=
  let c0_i32_43 : BitVec 32 := 0#32
  let c1_i32_44 : BitVec 32 := 1#32
  let arg13 : BitVec 32 := Scf.iv c0_i32_43 c1_i32_44 k0_t1
  let c2_i32_194 : BitVec 32 := 2#32
  let v147 : BitVec 32 := Scalar.remsi arg13 c2_i32_194
  let v148 : Index := Scalar.indexCast v147
  let c0_195 : Index := 0#32
  let c0_196 : Index := 0#32
  ![v148.toNat, 0, 0]
def k0_off10 (k0_t1 : Fin k0_t1_loop.trips) : Fin 2 → Nat :=
  let c0_198 : Index := 0#32
  let c0_i32_43 : BitVec 32 := 0#32
  let c1_i32_44 : BitVec 32 := 1#32
  let arg13 : BitVec 32 := Scf.iv c0_i32_43 c1_i32_44 k0_t1
  let c256_i32_197 : BitVec 32 := 256#32
  let v152 : BitVec 32 := Scalar.muli arg13 c256_i32_197
  let v153 : Index := Scalar.indexCast v152
  ![0, v153.toNat]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_76 : BitVec 32 := 1#32
  let v63 : BitVec 32 := Scalar.muli v6 c1_i32_76
  let v64 : BitVec 32 := Scalar.addi c0_i32_77 v63
  v64.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_88 : BitVec 32 := 1#32
  let v73 : BitVec 32 := Scalar.muli v4 c1_i32_88
  let v74 : BitVec 32 := Scalar.addi c0_i32_89 v73
  v74.toNat
@[reducible] def k0_t2_loop : Scf.Loop 32 :=
  let c0_i32_94 : BitVec 32 := 0#32
  let c8_i32_95 : BitVec 32 := 8#32
  let v83 : BitVec 32 := Scalar.addi c0_i32_94 c8_i32_95
  let c1_i32_96 : BitVec 32 := 1#32
  ⟨c0_i32_94, v83, c1_i32_96⟩
def k0_cond2 (k0_t2 : Fin k0_t2_loop.trips) : BitVec 1 :=
  let c0_i32_94 : BitVec 32 := 0#32
  let c1_i32_96 : BitVec 32 := 1#32
  let arg13 : BitVec 32 := Scf.iv c0_i32_94 c1_i32_96 k0_t2
  let c3_i32_189 : BitVec 32 := 3#32
  let v138 : BitVec 1 := Scalar.cmpi .eq arg13 c3_i32_189
  let v139 : BitVec 32 := Scalar.extui v138
  let c0_i32_190 : BitVec 32 := 0#32
  let v140 : BitVec 1 := Scalar.cmpi .ne v139 c0_i32_190
  v140

def k0_dev7 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_240 : BitVec 32 := 1#32
  let v194 : BitVec 32 := Scalar.muli v6 c1_i32_240
  let v195 : BitVec 32 := Scalar.addi c0_i32_241 v194
  v195.toNat
def k0_dev8 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_252 : BitVec 32 := 1#32
  let v204 : BitVec 32 := Scalar.muli v4 c1_i32_252
  let v205 : BitVec 32 := Scalar.addi c0_i32_253 v204
  v205.toNat
def k0_cond4 (k0_t2 : Fin k0_t2_loop.trips) : BitVec 1 :=
  let c0_i32_94 : BitVec 32 := 0#32
  let c1_i32_96 : BitVec 32 := 1#32
  let arg13 : BitVec 32 := Scf.iv c0_i32_94 c1_i32_96 k0_t2
  let c2_i32_193 : BitVec 32 := 2#32
  let v145 : BitVec 1 := Scalar.cmpi .sge arg13 c2_i32_193
  let v146 : BitVec 32 := Scalar.extui v145
  let c0_i32_194 : BitVec 32 := 0#32
  let v147 : BitVec 1 := Scalar.cmpi .ne v146 c0_i32_194
  v147

def k0_off11 (k0_t2 : Fin k0_t2_loop.trips) : Fin 2 → Nat :=
  let c0_i32_210 : BitVec 32 := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  ![0, v137.toNat]
def k0_off12 (k0_t2 : Fin k0_t2_loop.trips) : Fin 2 → Nat :=
  let c0_i32_211 : BitVec 32 := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![0, v144.toNat]
def k0_off13 (k0_t2 : Fin k0_t2_loop.trips) : Fin 2 → Nat :=
  let c0_i32_212 : BitVec 32 := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![0, v144.toNat]
def k0_off14 (k0_t2 : Fin k0_t2_loop.trips) : Fin 2 → Nat :=
  let c1_i32_213 : BitVec 32 := 1#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  ![1, v137.toNat]
def k0_off15 (k0_t2 : Fin k0_t2_loop.trips) : Fin 2 → Nat :=
  let c512_i32_214 : BitVec 32 := 512#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![512, v144.toNat]
def k0_off16 (k0_t2 : Fin k0_t2_loop.trips) : Fin 2 → Nat :=
  let c512_i32_215 : BitVec 32 := 512#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![512, v144.toNat]
def k0_off17 (k0_t2 : Fin k0_t2_loop.trips) : Fin 3 → Nat :=
  let c0_i32_94 : BitVec 32 := 0#32
  let c1_i32_96 : BitVec 32 := 1#32
  let arg13 : BitVec 32 := Scf.iv c0_i32_94 c1_i32_96 k0_t2
  let c2_i32_187 : BitVec 32 := 2#32
  let v136 : BitVec 32 := Scalar.divsi arg13 c2_i32_187
  let v148 : Index := Scalar.indexCast v136
  let c0_195 : Index := 0#32
  let c0_196 : Index := 0#32
  ![v148.toNat, 0, 0]
def k0_off18 (k0_t2 : Fin k0_t2_loop.trips) : Fin 2 → Nat :=
  let c0_197 : Index := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  let v151 : Index := Scalar.indexCast v144
  ![0, v151.toNat]
def k0_off19 (k0_t2 : Fin k0_t2_loop.trips) : Fin 2 → Nat :=
  let c0_198 : Index := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  let v157 : Index := Scalar.indexCast v144
  ![0, v157.toNat]
def k0_off20 (k0_t2 : Fin k0_t2_loop.trips) : Fin 2 → Nat :=
  let c0_i32_204 : BitVec 32 := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  ![0, v137.toNat]
def k0_off21 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_94 : BitVec 32 := 0#32
  let c1_i32_96 : BitVec 32 := 1#32
  let arg13 : BitVec 32 := Scf.iv c0_i32_94 c1_i32_96 k0_t2
  let c2_i32_187 : BitVec 32 := 2#32
  let v136 : BitVec 32 := Scalar.divsi arg13 c2_i32_187
  let v161 : BitVec 32 := Scalar.subi v2 v136
  let c4_i32_199 : BitVec 32 := 4#32
  let v162 : BitVec 32 := Scalar.addi v161 c4_i32_199
  let c4_i32_200 : BitVec 32 := 4#32
  let v163 : BitVec 32 := Scalar.remsi v162 c4_i32_200
  let c1024_i32_202 : BitVec 32 := 1024#32
  let v166 : BitVec 32 := Scalar.muli v163 c1024_i32_202
  let c0_i32_203 : BitVec 32 := 0#32
  let v167 : BitVec 32 := Scalar.addi v166 c0_i32_203
  let c2_i32_188 : BitVec 32 := 2#32
  let v137 : BitVec 32 := Scalar.remsi arg13 c2_i32_188
  let c1024_i32_192 : BitVec 32 := 1024#32
  let v144 : BitVec 32 := Scalar.muli v137 c1024_i32_192
  ![v167.toNat, v144.toNat]
def k0_off22 (k0_t2 : Fin k0_t2_loop.trips) : Fin 2 → Nat :=
  let c0_i32_205 : BitVec 32 := 0#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![0, v144.toNat]
def k0_off23 (k0_t2 : Fin k0_t2_loop.trips) : Fin 2 → Nat :=
  let c1_i32_208 : BitVec 32 := 1#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  ![1, v137.toNat]
def k0_off24 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_94 : BitVec 32 := 0#32
  let c1_i32_96 : BitVec 32 := 1#32
  let arg13 : BitVec 32 := Scf.iv c0_i32_94 c1_i32_96 k0_t2
  let c2_i32_187 : BitVec 32 := 2#32
  let v136 : BitVec 32 := Scalar.divsi arg13 c2_i32_187
  let v164 : BitVec 32 := Scalar.addi v2 v136
  let c4_i32_201 : BitVec 32 := 4#32
  let v165 : BitVec 32 := Scalar.remsi v164 c4_i32_201
  let c1024_i32_206 : BitVec 32 := 1024#32
  let v172 : BitVec 32 := Scalar.muli v165 c1024_i32_206
  let c512_i32_207 : BitVec 32 := 512#32
  let v173 : BitVec 32 := Scalar.addi v172 c512_i32_207
  let c2_i32_188 : BitVec 32 := 2#32
  let v137 : BitVec 32 := Scalar.remsi arg13 c2_i32_188
  let c1024_i32_192 : BitVec 32 := 1024#32
  let v144 : BitVec 32 := Scalar.muli v137 c1024_i32_192
  ![v173.toNat, v144.toNat]
def k0_off25 (k0_t2 : Fin k0_t2_loop.trips) : Fin 2 → Nat :=
  let c512_i32_209 : BitVec 32 := 512#32
  let c0_i32_94 : BitVec 32 := 0#32
  let c1_i32_96 : BitVec 32 := 1#32
  let arg13 : BitVec 32 := Scf.iv c0_i32_94 c1_i32_96 k0_t2
  let c2_i32_188 : BitVec 32 := 2#32
  let v137 : BitVec 32 := Scalar.remsi arg13 c2_i32_188
  let c1024_i32_192 : BitVec 32 := 1024#32
  let v144 : BitVec 32 := Scalar.muli v137 c1024_i32_192
  ![512, v144.toNat]
abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x4096, .fp8e4m3⟩
  | .local _ .vmem, ⟨1, _⟩ => ⟨S4096x8192, .f32⟩
  | .local _ .vmem, ⟨2, _⟩ => ⟨S4096x8192, .bf16⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Contents.lean ====
/-
# What the buffers hold

The kernel's buffers and the regions the program names: half chunks of the exchange buffer, column tiles of the
weight, quadrants of the accumulator, lanes of the result. For every buffer, what it holds when filled, over
any float values.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.ValueLayout
public import Idealize.ShloMosaic.Lib.Tactic

@[expose] public section

noncomputable section

namespace Cert.RingMM

open Cert.KernelIdeal Cert.KernelIdeal.Gen
open Idealize.ShloMosaic Idealize.ShloMosaic.TcCoe
open Idealize.ShloMosaic.ValueIdx

variable {F : FTy → Type} [FloatOps F]

/-! ## The ring -/

set_option backward.proofsInPublic true in
/-- The device a half chunk of kind `d` travels to: one up for `d = 0`, one down for `d = 1`. -/
def tgt (d : ℕ) (c : Dev nD) : Dev nD := if d = 0 then ⟨(c.val + 1) % 4, Nat.mod_lt _ (by decide)⟩ else ⟨(c.val + 3) % 4, Nat.mod_lt _ (by decide)⟩

/-- Down after up is where one started. -/
theorem tgt_one_zero (c : Dev nD) : tgt 1 (tgt 0 c) = c := by revert c; decide
/-- Up after down is where one started. -/
theorem tgt_zero_one (c : Dev nD) : tgt 0 (tgt 1 c) = c := by revert c; decide

set_option backward.proofsInPublic true in
/-- The device the half chunk of kind `d` at level `h` of device `c`'s exchange buffer comes from. -/
def orig (h d : ℕ) (c : Dev nD) : Dev nD := if d = 0 then ⟨(c.val + 4 - h) % 4, Nat.mod_lt _ (by decide)⟩ else ⟨(c.val + h) % 4, Nat.mod_lt _ (by decide)⟩

/-! ## The buffers -/

abbrev xM : Memref sig .tc .vmem S1024x4096 .fp8e4m3 := Memref.whole cc0_stg0_0
abbrev sxM : Memref sig .tc .smem S1 .f32 := Memref.whole cc0_stg1_0
abbrev swM : Memref sig .tc .smem S1 .f32 := Memref.whole cc0_stg2_0
abbrev wM : Memref sig .tc .hbm S4096x2048 .f32 := Memref.whole main_arg1
abbrev oM : Memref sig .tc .hbm S4096x2048 .bf16 := Memref.whole main_v1
abbrev cM : Memref sig .tc .vmem S4x1024x4096 .fp8e4m3 := Memref.whole cc0_scratch0
abbrev aM : Memref sig .tc .vmem S1024x2048 .bf16 := Memref.whole cc0_scratch1
abbrev eM : Memref sig .tc .vmem S4096x2048 .fp8e4m3 := Memref.whole cc0_scratch2
abbrev gM : Memref sig .tc .vmem S2x4096x256 .f32 := Memref.whole cc0_scratch3

/-- A half chunk of the exchange buffer, by its offsets. -/
abbrev halfV (off : Fin 3 → ℕ) (inb : ∀ a, off a + S1x512x4096.size a ≤ S4x1024x4096.size a) : Memref sig .tc .vmem S512x4096 .fp8e4m3 :=
  (cM.slice (Rect.unit (s := S4x1024x4096) off S1x512x4096.size inb) (fun _ => rfl)).squeeze S512x4096 squeezes_S1x512x4096_S512x4096
/-- A slot of the weight's staging buffer. -/
abbrev slotV (off : Fin 3 → ℕ) (inb : ∀ a, off a + S1x4096x256.size a ≤ S2x4096x256.size a) : Memref sig .tc .vmem S4096x256 .f32 :=
  (gM.slice (Rect.unit (s := S2x4096x256) off S1x4096x256.size inb) (fun _ => rfl)).squeeze S4096x256 squeezes_S1x4096x256_S4096x256
/-- A column tile of the weight. -/
abbrev tileV (off : Fin 2 → ℕ) (inb : ∀ a, off a + S4096x256.size a ≤ S4096x2048.size a) : Memref sig .tc .hbm S4096x256 .f32 :=
  wM.slice (Rect.unit (s := S4096x2048) off S4096x256.size inb) (fun _ => rfl)
/-- A quadrant of the accumulator. -/
abbrev quadV (off : Fin 2 → ℕ) (inb : ∀ a, off a + S512x1024.size a ≤ S1024x2048.size a) : Memref sig .tc .vmem S512x1024 .bf16 :=
  aM.slice (Rect.unit (s := S1024x2048) off S512x1024.size inb) (fun _ => rfl)
/-- A block of the result. -/
abbrev outV (off : Fin 2 → ℕ) (inb : ∀ a, off a + S512x1024.size a ≤ S4096x2048.size a) : Memref sig .tc .hbm S512x1024 .bf16 :=
  oM.slice (Rect.unit (s := S4096x2048) off S512x1024.size inb) (fun _ => rfl)

/-! ## The regions, as sets of elements -/

/-- The half chunk of kind `d` at level `h`. -/
def hSet (h d : ℕ) : Finset S4x1024x4096.Idx := Finset.univ.filter fun i => (i 0).val = h ∧ (i 1).val / 512 = d
/-- Slot `s` of the staging buffer. -/
def gSet (s : ℕ) : Finset S2x4096x256.Idx := Finset.univ.filter fun i => (i 0).val = s
/-- The quadrant of the accumulator for kind `d` and column half `nh`. -/
def qSet (d nh : ℕ) : Finset S1024x2048.Idx := Finset.univ.filter fun i => (i 0).val / 512 = d ∧ (i 1).val / 1024 = nh
/-- The lane of the result for kind `d` and column half `nh`. -/
def lSet (d nh : ℕ) : Finset S4096x2048.Idx := Finset.univ.filter fun i => (i 0).val / 512 % 2 = d ∧ (i 1).val / 1024 = nh

/-- Membership in a half chunk, by coordinates. -/
theorem mem_hSet {h d : ℕ} {i : S4x1024x4096.Idx} : i ∈ hSet h d ↔ (i 0).val = h ∧ (i 1).val / 512 = d := by simp [hSet]
/-- Membership in a staging slot, by coordinates. -/
theorem mem_gSet {s : ℕ} {i : S2x4096x256.Idx} : i ∈ gSet s ↔ (i 0).val = s := by simp [gSet]
/-- Membership in a quadrant of the accumulator, by coordinates. -/
theorem mem_qSet {d nh : ℕ} {i : S1024x2048.Idx} : i ∈ qSet d nh ↔ (i 0).val / 512 = d ∧ (i 1).val / 1024 = nh := by simp [qSet]
/-- Membership in a lane of the result, by coordinates. -/
theorem mem_lSet {d nh : ℕ} {i : S4096x2048.Idx} : i ∈ lSet d nh ↔ (i 0).val / 512 % 2 = d ∧ (i 1).val / 1024 = nh := by simp [lSet]

/-! ## The elements the views name -/

/-- A half chunk's element `(r, k)` in the exchange buffer. -/
theorem halfV_emb (off) (inb) (x : S512x4096.Idx) (a : Fin 3) :
    ((halfV off inb).view.emb x a).val = off a + (match a with | 0 => 0 | 1 => (x 0).val | 2 => (x 1).val) := by
  have hx : Shape.reshapeEquiv (s := S1x512x4096) (s' := S512x4096) (Shape.Squeezes.numel_eq squeezes_S1x512x4096_S512x4096) x = ix3 ⟨0, Nat.one_pos⟩ (x 0) (x 1) := by
    conv_lhs => rw [eq_ix2 x]
    exact reshapeEquiv_ix2_1ab _ _ _
  show off a + 1 * (Shape.reshapeEquiv (s := S1x512x4096) (s' := S512x4096) (Shape.Squeezes.numel_eq squeezes_S1x512x4096_S512x4096) x a).val = _
  rw [hx, Nat.one_mul]
  fin_cases a <;> rfl
/-- A slot's element `(k, n)` in the staging buffer. -/
theorem slotV_emb (off) (inb) (x : S4096x256.Idx) (a : Fin 3) :
    ((slotV off inb).view.emb x a).val = off a + (match a with | 0 => 0 | 1 => (x 0).val | 2 => (x 1).val) := by
  have hx : Shape.reshapeEquiv (s := S1x4096x256) (s' := S4096x256) (Shape.Squeezes.numel_eq squeezes_S1x4096x256_S4096x256) x = ix3 ⟨0, Nat.one_pos⟩ (x 0) (x 1) := by
    conv_lhs => rw [eq_ix2 x]
    exact reshapeEquiv_ix2_1ab _ _ _
  show off a + 1 * (Shape.reshapeEquiv (s := S1x4096x256) (s' := S4096x256) (Shape.Squeezes.numel_eq squeezes_S1x4096x256_S4096x256) x a).val = _
  rw [hx, Nat.one_mul]
  fin_cases a <;> rfl
/-- A weight tile's element in the weight. -/
theorem tileV_emb (off) (inb) (x : S4096x256.Idx) (a : Fin 2) : ((tileV off inb).view.emb x a).val = off a + (x a).val := by
  show ((Rect.unit (s := S4096x2048) off S4096x256.size inb).emb x a).val = _
  rw [Rect.emb_apply]; simp
/-- A quadrant's element in the accumulator. -/
theorem quadV_emb (off) (inb) (x : S512x1024.Idx) (a : Fin 2) : ((quadV off inb).view.emb x a).val = off a + (x a).val := by
  show ((Rect.unit (s := S1024x2048) off S512x1024.size inb).emb x a).val = _
  rw [Rect.emb_apply]; simp
/-- A result block's element in the result. -/
theorem outV_emb (off) (inb) (x : S512x1024.Idx) (a : Fin 2) : ((outV off inb).view.emb x a).val = off a + (x a).val := by
  show ((Rect.unit (s := S4096x2048) off S512x1024.size inb).emb x a).val = _
  rw [Rect.emb_apply]; simp

/-- A half chunk at level `h`, kind `d`, is that region. -/
theorem halfV_set (h d : ℕ) (off) (inb) (e : off = ![h, 512 * d, 0]) : ((halfV off inb).view.set : Finset S4x1024x4096.Idx) = hSet h d := by
  subst e
  rw [Memref.set_view_squeeze]
  show ((View.whole cc0_scratch0).slice _).set = _
  rw [View.set_slice_whole]
  ext i
  rw [Rect.mem_set_unit, mem_hSet]
  have h2 : (i 2).val < 4096 := (i 2).isLt
  constructor
  · intro H
    have h0 := H 0; have h1 := H 1
    simp at h0 h1
    constructor <;> omega
  · rintro ⟨h0, h1⟩ a
    match a with
    | 0 => show h ≤ (i 0).val ∧ (i 0).val < h + 1; omega
    | 1 => show 512 * d ≤ (i 1).val ∧ (i 1).val < 512 * d + 512; omega
    | 2 => show 0 ≤ (i 2).val ∧ (i 2).val < 0 + 4096; omega
/-- A slot of the staging buffer is that region. -/
theorem slotV_set (s : ℕ) (off) (inb) (e : off = ![s, 0, 0]) : ((slotV off inb).view.set : Finset S2x4096x256.Idx) = gSet s := by
  subst e
  rw [Memref.set_view_squeeze]
  show ((View.whole cc0_scratch3).slice _).set = _
  rw [View.set_slice_whole]
  ext i
  rw [Rect.mem_set_unit, mem_gSet]
  have h2 : (i 2).val < 256 := (i 2).isLt; have h1 : (i 1).val < 4096 := (i 1).isLt
  constructor
  · intro H
    have h0 := H 0
    simp at h0
    omega
  · intro h0 a
    match a with
    | 0 => show s ≤ (i 0).val ∧ (i 0).val < s + 1; omega
    | 1 => show 0 ≤ (i 1).val ∧ (i 1).val < 0 + 4096; omega
    | 2 => show 0 ≤ (i 2).val ∧ (i 2).val < 0 + 256; omega
/-- A quadrant of the accumulator is that region. -/
theorem quadV_set (d nh : ℕ) (off) (inb) (e : off = ![512 * d, 1024 * nh]) : ((quadV off inb).view.set : Finset S1024x2048.Idx) = qSet d nh := by
  subst e
  show ((View.whole cc0_scratch1).slice _).set = _
  rw [View.set_slice_whole]
  ext i
  rw [Rect.mem_set_unit, mem_qSet]
  constructor
  · intro H
    have h0 := H 0; have h1 := H 1
    simp at h0 h1
    constructor <;> omega
  · rintro ⟨h0, h1⟩ a
    fin_cases a <;> simp <;> omega
/-- A block of the result lies in its lane. -/
theorem outV_set (o d nh : ℕ) (hd : d < 2) (off) (inb) (e : off = ![1024 * o + 512 * d, 1024 * nh]) : ((outV off inb).view.set : Finset S4096x2048.Idx) ⊆ lSet d nh := by
  subst e
  show ((View.whole main_v1).slice _).set ⊆ _
  rw [View.set_slice_whole]
  intro i
  rw [Rect.mem_set_unit, mem_lSet]
  intro H
  have h0 := H 0; have h1 := H 1
  simp at h0 h1
  constructor <;> omega

/-! ## What they hold -/

variable (m : (ℓ : Loc nD τ sig) → Buf (Elt F) ℓ)

/-- Device `c`'s block of the activations, its block of the weight, its two scales. -/
def xA (c : Dev nD) : S1024x4096.Idx → Elt F .fp8e4m3 := m ((c : Thread nD τ).loc main_arg0)
def wA (c : Dev nD) : S4096x2048.Idx → Elt F .f32 := m ((c : Thread nD τ).loc main_arg1)
def sxA (c : Dev nD) : S1.Idx → Elt F .f32 := m ((c : Thread nD τ).loc main_arg2)
def swA (c : Dev nD) : S1.Idx → Elt F .f32 := m ((c : Thread nD τ).loc main_arg3)

/-- The product of the two scales. -/
def scA (c : Dev nD) : F .f32 := k0_pay2 (sxA m c (ix1 0)) (swA m c (ix1 0))

/-- The filled exchange buffer: level `h`, kind `d` holds the half chunk of device `orig h d c`. -/
def commA (c : Dev nD) : S4x1024x4096.Idx → Elt F .fp8e4m3 := fun i => xA m (orig (i 0).val ((i 1).val / 512) c) (ix2 (i 1) (i 2))

/-- Tile `t` of the weight as a slot holds it. -/
def tileA (c : Dev nD) (t : Fin 8) : S1x4096x256.Idx → Elt F .f32 := fun y => wA m c (ix2 (y 1) ⟨256 * t.val + (y 2).val, by have := (y 2).isLt; simp at this; omega⟩)

/-- The narrowed weight. -/
def w8A (c : Dev nD) : S4096x2048.Idx → Elt F .fp8e4m3 := fun i =>
  k0_pay4 (tileA m c ⟨(i 1).val / 256, by have := (i 1).isLt; simp at this; omega⟩) (ix2 (i 0) ⟨(i 1).val % 256, Nat.mod_lt _ (by decide)⟩)

/-- Level `ℓ` of the filled exchange buffer, and column half `nh` of the narrowed weight. -/
def lvlA (c : Dev nD) (ℓ : Fin 4) : S1x1024x4096.Idx → Elt F .fp8e4m3 := fun y => commA m c (ix3 ℓ (y 1) (y 2))
def colA (c : Dev nD) (nh : Fin 2) : S4096x1024.Idx → Elt F .fp8e4m3 := fun y => w8A m c (ix2 (y 0) ⟨1024 * nh.val + (y 1).val, by have := (y 1).isLt; simp at this; omega⟩)

/-- The scaled product of level `ℓ` with column half `nh`. -/
def accA (c : Dev nD) (ℓ : Fin 4) (nh : Fin 2) : S1024x1024.Idx → Elt F .bf16 := k0_pay1 (scA m c) (lvlA m c ℓ) (colA m c nh)

set_option backward.proofsInPublic true in
/-- The level at which device `c` computes the rows of kind `d` of device `o`. -/
def lvlOf (d o : ℕ) (c : Dev nD) : Fin 4 := if d = 0 then ⟨(c.val + 4 - o) % 4, Nat.mod_lt _ (by decide)⟩ else ⟨(o + 4 - c.val) % 4, Nat.mod_lt _ (by decide)⟩

/-- The result. -/
def outA (c : Dev nD) : S4096x2048.Idx → Elt F .bf16 := fun i =>
  accA m c (lvlOf ((i 0).val / 512 % 2) ((i 0).val / 1024) c) ⟨(i 1).val / 1024, by have := (i 1).isLt; simp at this; omega⟩
    (ix2 ⟨(i 0).val % 1024, Nat.mod_lt _ (by decide)⟩ ⟨(i 1).val % 1024, Nat.mod_lt _ (by decide)⟩)

end Cert.RingMM

end
-- ==== Proof.Protocol.lean ====
/-
# The exchange's protocol

Thirteen cells per device under the rounds library: the barrier, six send and six receive semaphores (two kinds,
three hops). Each DMA cell has one duty, the barrier two, one per neighbour. The barrier's payloads are the
neighbours' landing regions; a receive cell's is the half chunk it lands, at its contents; a send cell's is the
source half chunk's left share back.
-/
module

public import proofs.«01_k».proof.Proof.Contents
public import Idealize.ShloMosaic.Lib.Pipeline.Launch
public import Idealize.ShloMosaic.Lib.Pipeline.Kit
public import Idealize.ShloMosaic.Lib.Pipeline.CollectiveSegs
public import Idealize.ShloMosaic.Lib.Transfers

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, the exchange's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds live. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
/-- Where the local transfers' counters live. -/
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-! ## Semaphores and cells -/

abbrev barS : Sem sig := barrier0
/-- The send and the receive semaphore of kind `d`, hop `h`; the weight's, the result's. -/
def sS (d : Fin 2) (h : Fin 3) : DmaSem sig := ⟨3 + 3 * d.val + h.val, by show _ < 21; omega⟩
def vS (d : Fin 2) (h : Fin 3) : DmaSem sig := ⟨9 + 3 * d.val + h.val, by show _ < 21; omega⟩
def gS (s : Fin 2) : DmaSem sig := ⟨15 + s.val, by show _ < 21; omega⟩
def uS (d nh : Fin 2) : DmaSem sig := ⟨17 + 2 * d.val + nh.val, by show _ < 21; omega⟩

abbrev barCell (c : Dev nD) : GSem nD τ sig := ((c : Thread nD τ), .reg barS)
abbrev sCell (c : Dev nD) (d : Fin 2) (h : Fin 3) : GSem nD τ sig := ((c : Thread nD τ), .dma (sS d h))
abbrev vCell (c : Dev nD) (d : Fin 2) (h : Fin 3) : GSem nD τ sig := ((c : Thread nD τ), .dma (vS d h))

/-- The thirteen cells: the twelve DMA ones, then the barrier. -/
def csem (k : Fin 13) : SemLoc sig := if h : k.val < 12 then .dma ⟨3 + k.val, by show _ < 21; omega⟩ else .reg barS
abbrev kcell (ck : Dev nD × Fin 13) : GSem nD τ sig := ((ck.1 : Thread nD τ), csem ck.2)

/-- Which of the thirteen a send, a receive semaphore and the barrier are. -/
def sIx (d : Fin 2) (h : Fin 3) : Fin 13 := ⟨3 * d.val + h.val, by omega⟩
def vIx (d : Fin 2) (h : Fin 3) : Fin 13 := ⟨6 + 3 * d.val + h.val, by omega⟩

/-- The protocol's send semaphore by its place in the list. -/
theorem csem_s (d : Fin 2) (h : Fin 3) : csem (sIx d h) = .dma (sS d h) := by revert d h; decide
/-- The protocol's receive semaphore by its place in the list. -/
theorem csem_v (d : Fin 2) (h : Fin 3) : csem (vIx d h) = .dma (vS d h) := by revert d h; decide
/-- The protocol's barrier semaphore by its place in the list. -/
theorem csem_bar : csem 12 = .reg barS := by decide

/-- The credit of one half chunk. -/
abbrev N : ℕ := (halfV ![0, 0, 0] inb_S4x1024x4096_S1x512x4096_0_0_0).view.dmaCredit
/-- A half chunk's transfer credits something. -/
theorem N_pos : 0 < N := View.dmaCredit_pos _ (by decide)
/-- Every half chunk's transfer credits the same. -/
theorem half_credit (off) (inb) : (halfV off inb).view.dmaCredit = N := rfl

/-! ## The exchange buffer's regions -/

/-- Device `c`'s half chunk of kind `d` at level `h`, at share `q` and contents `f`. -/
def cPts (c : Dev nD) (h d : ℕ) (q : PosShare TreeShare) (f : S4x1024x4096.Idx → Elt F .fp8e4m3) : sProp 𝕄 :=
  ((c : Thread nD τ).loc cc0_scratch0) ↦[hSet h d]{q} f

omit [FloatOps F] in
instance cPts_storable (c : Dev nD) (h d q f) : BI.Storable (upEmb : UEmb _ 𝕄) (cPts (F := F) c h d q f) := by unfold cPts; infer_instance

/-- A device's landing regions of kind `d`, at any contents. -/
def landing (c : Dev nD) (d : ℕ) : sProp 𝕄 :=
  iprop(∃ f, cPts c 1 d fullShare f ∗ cPts c 2 d fullShare f ∗ cPts c 3 d fullShare f)

omit [FloatOps F] in
instance landing_storable (c : Dev nD) (d : ℕ) : BI.Storable (upEmb : UEmb _ 𝕄) (landing (F := F) c d) := by unfold landing; infer_instance

/-! ## The schedule -/

def rd : Rounds.Schedule (GSem nD τ sig) Bool 𝕄 where
  duties g r := if r = 0 ∧ g.1.2 = .tc then (match g.2 with | .reg _ => Finset.univ | .dma q => if 3 ≤ q.val ∧ q.val < 15 then {false} else ∅) else ∅
  unitless _ := False
  amount g _ _ := match g.2 with | .reg _ => 1 | .dma _ => N
  payload g _ d := match g.2 with
    | .reg _ => if d then landing (tgt 0 g.1.1) 0 else landing (tgt 1 g.1.1) 1
    | .dma q => if q.val < 9 then cPts g.1.1 ((q.val - 3) % 3) ((q.val - 3) / 3) fullShare.left (commA m g.1.1)
        else cPts g.1.1 ((q.val - 9) % 3 + 1) ((q.val - 9) / 3) fullShare (commA m g.1.1)
  amount_pos g _ _ _ := by
    rcases g with ⟨_, _ | _⟩
    · exact Nat.one_pos
    · exact N_pos

instance rd_storable (g : GSem nD τ sig) (r : ℕ) (d : Bool) : BI.Storable (upEmb : UEmb _ 𝕄) ((rd (F := F) m).payload g r d) := by
  rcases g with ⟨t, q | q⟩
  · show BI.Storable upEmb (if d then landing (tgt 0 t.1) 0 else landing (tgt 1 t.1) 1)
    split <;> infer_instance
  · show BI.Storable upEmb (if q.val < 9 then cPts t.1 ((q.val - 3) % 3) ((q.val - 3) / 3) fullShare.left (commA m t.1)
        else cPts t.1 ((q.val - 9) % 3 + 1) ((q.val - 9) / 3) fullShare (commA m t.1))
    split <;> infer_instance

section Sched
variable (c : Dev nD) (d : Fin 2) (h : Fin 3)

omit [FloatOps F] in
/-- A barrier has two duties, one for each neighbour. -/
theorem duties_bar : (rd (F := F) m).duties (barCell c) 0 = Finset.univ := by dsimp only [rd]; exact if_pos ⟨rfl, rfl⟩
omit [FloatOps F] in
/-- An exchange DMA semaphore's cell has the one duty `false`. -/
theorem duties_dma (q : DmaSem sig) (hq : 3 ≤ q.val ∧ q.val < 15) : (rd (F := F) m).duties ((c : Thread nD τ), .dma q) 0 = {false} := by
  dsimp only [rd]; rw [if_pos ⟨rfl, rfl⟩]; exact if_pos hq
omit [FloatOps F] in
/-- No cell has a duty after its first round. -/
theorem duties_later (g : GSem nD τ sig) : ∀ r, 1 ≤ r → (rd (F := F) m).duties g r = ∅ :=
  fun r hr => by dsimp only [rd]; rw [if_neg fun h => by omega]
omit [FloatOps F] in
/-- A signal pays one unit. -/
theorem amount_bar (b : Bool) : (rd (F := F) m).amount (barCell c) 0 b = 1 := rfl
omit [FloatOps F] in
/-- A transfer pays a half chunk's credit. -/
theorem amount_dma (q : DmaSem sig) (b : Bool) : (rd (F := F) m).amount ((c : Thread nD τ), .dma q) 0 b = N := rfl
omit [FloatOps F] in
/-- A barrier expects two units. -/
theorem expect_bar : (rd (F := F) m).expect (barCell c) 0 = 2 := by
  unfold Schedule.expect Schedule.amountOf
  rw [duties_bar, Finset.sum_congr rfl fun b _ => amount_bar m c b, Finset.sum_const, Finset.card_univ, Fintype.card_bool, smul_eq_mul]
omit [FloatOps F] in
/-- A send or receive cell expects one half chunk's credit. -/
theorem expect_dma (q : DmaSem sig) (hq : 3 ≤ q.val ∧ q.val < 15) : (rd (F := F) m).expect ((c : Thread nD τ), .dma q) 0 = N := by
  unfold Schedule.expect Schedule.amountOf; rw [duties_dma m c q hq, Finset.sum_singleton, amount_dma]

/-- The send semaphores are among the protocol's. -/
theorem sS_mem : 3 ≤ (sS d h).val ∧ (sS d h).val < 15 := by unfold sS; constructor <;> dsimp only <;> omega
/-- The receive semaphores are among the protocol's. -/
theorem vS_mem : 3 ≤ (vS d h).val ∧ (vS d h).val < 15 := by unfold vS; constructor <;> dsimp only <;> omega

omit [FloatOps F] in
/-- A send cell hands back the share of the chunk that the transfer read. -/
theorem payload_s (b : Bool) : (rd (F := F) m).payload (sCell c d h) 0 b = cPts c h.val d.val fullShare.left (commA m c) := by
  have e : (sS d h).val = 3 + 3 * d.val + h.val := rfl
  dsimp only [rd]
  rw [if_pos (by omega), show ((sS d h).val - 3) % 3 = h.val by omega, show ((sS d h).val - 3) / 3 = d.val by omega]
omit [FloatOps F] in
/-- A receive cell hands over the landed half chunk, at its contents. -/
theorem payload_v (b : Bool) : (rd (F := F) m).payload (vCell c d h) 0 b = cPts c (h.val + 1) d.val fullShare (commA m c) := by
  have e : (vS d h).val = 9 + 3 * d.val + h.val := rfl
  dsimp only [rd]
  rw [if_neg (by omega), show ((vS d h).val - 9) % 3 = h.val by omega, show ((vS d h).val - 9) / 3 = d.val by omega]
omit [FloatOps F] in
/-- The upper neighbour's signal hands over its landing places. -/
theorem payload_bar_true : (rd (F := F) m).payload (barCell c) 0 true = landing (tgt 0 c) 0 := rfl
omit [FloatOps F] in
/-- The lower neighbour's signal hands over its landing places. -/
theorem payload_bar_false : (rd (F := F) m).payload (barCell c) 0 false = landing (tgt 1 c) 1 := rfl

omit [FloatOps F] in
/-- What a barrier's wait receives. -/
theorem rest_bar : bigSep ((rd (F := F) m).duties (barCell c) 0 \ ∅) (fun b => (rd (F := F) m).payload (barCell c) 0 b) = iprop(landing (tgt 1 c) 1 ∗ landing (tgt 0 c) 0) := by
  rw [Finset.sdiff_empty, duties_bar, bigSep_univ_eq_bigSepL [false, true] (by decide) (by decide), bigSepL_cons_cons, bigSepL_singleton]
  rfl
omit [FloatOps F] in
/-- What a wait on a send or receive cell receives. -/
theorem rest_dma (q : DmaSem sig) (hq : 3 ≤ q.val ∧ q.val < 15) :
    bigSep ((rd (F := F) m).duties ((c : Thread nD τ), .dma q) 0 \ ∅) (fun b => (rd (F := F) m).payload ((c : Thread nD τ), .dma q) 0 b)
      = (rd (F := F) m).payload ((c : Thread nD τ), .dma q) 0 false := by
  rw [Finset.sdiff_empty, duties_dma m c q hq, bigSep_singleton]

end Sched

/-! ## What each device owes; the levels -/

/-- The kind and the hop of the `j`-th transfer from the last. -/
def sd (j : ℕ) : Fin 2 := ⟨(j + 1) % 2, Nat.mod_lt _ (by decide)⟩
def sh (j : ℕ) : Fin 3 := ⟨(5 - j) / 2, by omega⟩

/-- What device `c` owes with its last `k` transfers still to come. -/
def rem (c : Dev nD) : ℕ → CellTallies nD τ sig Unit
  | 0 => 0
  | k + 1 => rem c k + tallyAt (vCell (tgt (sd k).val c) (sd k) (sh k)) () N
/-- What it owes before its second signal, and before its first. -/
def O₁ (c : Dev nD) : CellTallies nD τ sig Unit := rem c 6 + tallyAt (barCell (tgt 0 c)) () 1
def O₀ (c : Dev nD) : CellTallies nD τ sig Unit := O₁ c + tallyAt (barCell (tgt 1 c)) () 1

def L (g : GSem nD τ sig) : Finset Unit := if g.1.2 = .tc then {()} else ∅
/-- The levels: the receive cells by hop, the barrier below them, everything else below that. -/
def lvs (s : SemLoc sig) : ℕ := match s with | .reg _ => 1 | .dma q => if 9 ≤ q.val ∧ q.val < 15 then 2 + (q.val - 9) % 3 else 0
def lv (g : GSem nD τ sig) (_ : Unit) : ℕ := lvs g.2

/-- Only the cores that run the body have levels. -/
theorem L_of_ne (g : GSem nD τ sig) (h : g.1.2 ≠ .tc) : L g = ∅ := if_neg h
/-- On such a core every semaphore has one. -/
theorem L_tc (c : Dev nD) (sm : SemLoc sig) : L ((c : Thread nD τ), sm) = {()} := if_pos rfl

/-- A receive semaphore's level grows with its hop. -/
theorem lvs_v (d : Fin 2) (h : Fin 3) : lvs (.dma (vS d h)) = 2 + h.val := by revert d h; decide

/-- What is still owed is owed to the receive cell of a transfer to come. -/
theorem rem_pos {c : Dev nD} {k : ℕ} {g : GSem nD τ sig} {u : Unit} (h : 0 < rem c k g u) :
    ∃ j < k, g = vCell (tgt (sd j).val c) (sd j) (sh j) := by
  induction k with
  | zero => exact absurd h (Nat.lt_irrefl 0)
  | succ k ih =>
    unfold rem at h
    rw [Pi.add_apply, Finsupp.add_apply, tallyAt_apply] at h
    by_cases hg : g = vCell (tgt (sd k).val c) (sd k) (sh k)
    · exact ⟨k, Nat.lt_succ_self k, hg⟩
    · rw [if_neg (fun h' => hg h'.1), Nat.add_zero] at h
      obtain ⟨j, hj, e⟩ := ih h
      exact ⟨j, Nat.lt_succ_of_lt hj, e⟩
/-- What is owed at launch is owed to a receive cell or to a barrier. -/
theorem O₀_pos {c : Dev nD} {g : GSem nD τ sig} {u : Unit} (h : 0 < O₀ c g u) :
    (∃ j < 6, g = vCell (tgt (sd j).val c) (sd j) (sh j)) ∨ ∃ c', g = barCell c' := by
  unfold O₀ O₁ at h
  rw [Pi.add_apply, Finsupp.add_apply, Pi.add_apply, Finsupp.add_apply, tallyAt_apply, tallyAt_apply] at h
  by_cases h1 : g = barCell (tgt 0 c)
  · exact .inr ⟨_, h1⟩
  by_cases h2 : g = barCell (tgt 1 c)
  · exact .inr ⟨_, h2⟩
  rw [if_neg (fun h' => h1 h'.1), if_neg (fun h' => h2 h'.1)] at h
  simp only [Nat.add_zero] at h
  exact .inl (rem_pos h)

omit [FloatOps F] in
/-- A wait at level at most `n` is allowed while the transfers to come all land above `n`. -/
theorem mayWait_rem (c : Dev nD) (s : SemLoc sig) (k n : ℕ) (hs : lvs s ≤ n) (hk : ∀ j < k, n < 2 + (sh j).val) :
    (levAts L lv : sProp 𝕄) ⊢ MayWait (c : Thread nD τ) s () (rem c k) :=
  MayOwe.of_cut (L := L) (lev := lv) n (fun p hp => by rw [Finset.mem_singleton.mp hp, L_tc]; exact Finset.mem_singleton_self _)
    (fun g u hg => by obtain ⟨j, _, rfl⟩ := rem_pos hg; exact Finset.mem_singleton_self _)
    (fun p hp => by rw [Finset.mem_singleton.mp hp]; exact hs)
    (fun g u hg => by
      obtain ⟨j, hj, rfl⟩ := rem_pos hg
      show n < lvs _
      rw [lvs_v]; exact hk j hj)
omit [FloatOps F] in
/-- A wait on a semaphore of the lowest level is allowed from the start. -/
theorem mayWait_start (c : Dev nD) (s : SemLoc sig) (hs : lvs s ≤ 0) :
    (levAts L lv : sProp 𝕄) ⊢ MayWait (c : Thread nD τ) s () (O₀ c) :=
  MayOwe.of_cut (L := L) (lev := lv) 0 (fun p hp => by rw [Finset.mem_singleton.mp hp, L_tc]; exact Finset.mem_singleton_self _)
    (fun g u hg => by rcases O₀_pos hg with ⟨j, _, rfl⟩ | ⟨c', rfl⟩ <;> exact Finset.mem_singleton_self _)
    (fun p hp => by rw [Finset.mem_singleton.mp hp]; exact hs)
    (fun g u hg => by
      rcases O₀_pos hg with ⟨j, hj, rfl⟩ | ⟨c', rfl⟩
      · show 0 < lvs _
        rw [lvs_v]; omega
      · exact Nat.one_pos)

/-! ## What a device holds of the protocol -/

/-- Every cell's invariant, and that every cell has reached its round. -/
def records (K : Dev nD × Fin 13 → ℕ) : sProp 𝕄 :=
  iprop((bigSep Finset.univ fun ck : Dev nD × Fin 13 => cellInv ER (rd m) (K ck) (kcell ck))
    ∗ bigSep Finset.univ fun ck : Dev nD × Fin 13 => reached ER (kcell ck) 0)

instance records_persistent (K : Dev nD × Fin 13 → ℕ) : BI.Persistent (records (F := F) m K) := by unfold records; infer_instance

omit [FloatOps F] in
/-- The records hold every cell's invariant. -/
theorem inv_at (K : Dev nD × Fin 13 → ℕ) (ck : Dev nD × Fin 13) : records m K ⊢ cellInv ER (rd m) (K ck) (kcell ck) := by
  unfold records; exact sep_elim_left.trans (bigSep_elim (Finset.mem_univ ck))
omit [FloatOps F] in
/-- The records say that every cell has reached its first round. -/
theorem reached_at (K : Dev nD × Fin 13 → ℕ) (ck : Dev nD × Fin 13) : records m K ⊢ reached ER (kcell ck) 0 := by
  unfold records; exact sep_elim_right.trans (bigSep_elim (Finset.mem_univ ck))

omit [FloatOps F] in
/-- A send cell's invariant. -/
theorem inv_s (K) (c : Dev nD) (d h) : records m K ⊢ cellInv ER (rd m) (K (c, sIx d h)) (sCell c d h) := by
  have := inv_at m K (c, sIx d h); unfold kcell at this; rwa [csem_s] at this
omit [FloatOps F] in
/-- A receive cell's invariant. -/
theorem inv_v (K) (c : Dev nD) (d h) : records m K ⊢ cellInv ER (rd m) (K (c, vIx d h)) (vCell c d h) := by
  have := inv_at m K (c, vIx d h); unfold kcell at this; rwa [csem_v] at this
omit [FloatOps F] in
/-- A barrier cell's invariant. -/
theorem inv_bar (K) (c : Dev nD) : records m K ⊢ cellInv ER (rd m) (K (c, 12)) (barCell c) := by
  have := inv_at m K (c, 12); unfold kcell at this; rwa [csem_bar] at this
omit [FloatOps F] in
/-- A send cell has reached its first round. -/
theorem reached_s (K) (c : Dev nD) (d h) : records m K ⊢ reached ER (sCell c d h) 0 := by
  have := reached_at m K (c, sIx d h); unfold kcell at this; rwa [csem_s] at this
omit [FloatOps F] in
/-- A receive cell has reached its first round. -/
theorem reached_v (K) (c : Dev nD) (d h) : records m K ⊢ reached ER (vCell c d h) 0 := by
  have := reached_at m K (c, vIx d h); unfold kcell at this; rwa [csem_v] at this
omit [FloatOps F] in
/-- A barrier cell has reached its first round. -/
theorem reached_bar (K) (c : Dev nD) : records m K ⊢ reached ER (barCell c) 0 := by
  have := reached_at m K (c, 12); unfold kcell at this; rwa [csem_bar] at this

/-- For one transfer: the tokens of the two duties it pays, the send cell's position. -/
def hopToks (c : Dev nD) (d : Fin 2) (h : Fin 3) : sProp 𝕄 :=
  iprop(dutyTok ER (sCell c d h) 0 false ∗ dutyTok ER (vCell (tgt d.val c) d h) 0 false ∗ atPos ER (sCell c d h) 0 ∅ 0)
/-- For one landing: the credit of its wait, the receive cell's position. -/
def rcvKit (c : Dev nD) (d : Fin 2) (h : Fin 3) : sProp 𝕄 :=
  iprop(cred (tallyAt (vCell c d h) () N) ∗ atPos ER (vCell c d h) 0 ∅ 0)
/-- For one transfer in flight: the credit of its send wait, the send cell's position. -/
def sndKit (c : Dev nD) (d : Fin 2) (h : Fin 3) : sProp 𝕄 :=
  iprop(cred (tallyAt (sCell c d h) () N) ∗ atPos ER (sCell c d h) 0 ∅ 0)

end Cert.RingMM

end
-- ==== Proof.Hops.lean ====
/-
# One transfer, one wait

The rules of the exchange's two steps, stated once for every kind and hop: a transfer of a half chunk to the
neighbour, and a wait on a DMA cell of the protocol.
-/
module

public import proofs.«01_k».proof.Proof.Protocol

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What core `c` owes, its recorded waits left unsaid. -/
def owing (c : Dev nD) (O : CellTallies nD τ sig Unit) : sProp 𝕄 := iprop(∃ W, owes (c : Thread nD τ) O W)

/-- A piece of a program run first: its precondition out of what is held, its postcondition for the rest. -/
theorem wp_seq {α β : Type} {c : Dev nD} {p : Prog (TpuEff nD τ sig (Elt F) Λ₀ .tc) α} {k : α → Prog (TpuEff nD τ sig (Elt F) Λ₀ .tc) β}
    {Q : β → sProp 𝕄} {A R : sProp 𝕄} {B : α → sProp 𝕄}
    (hp : ∀ Kt : α → sProp 𝕄, iprop(A ∗ (∀ a, B a -∗ Kt a)) ⊢ wp frame (wpE (defs₀ (F := F)) 𝒱₀ (c : Thread nD τ) none) Set.univ p Kt)
    (hk : ∀ a, iprop(R ∗ B a) ⊢ wp frame (wpE (defs₀ (F := F)) 𝒱₀ (c : Thread nD τ) none) Set.univ (k a) Q) :
    iprop(R ∗ A) ⊢ wp frame (wpE (defs₀ (F := F)) 𝒱₀ (c : Thread nD τ) none) Set.univ (p >>= k) Q := by
  rw [wp_bind]
  iintro ⟨HR, HA⟩
  iapply (hp _)
  isplitl [HA]; · iexact HA
  iintro %a HB
  iapply (hk a)
  isplitl [HR] <;> iassumption

/-- A send semaphore is at the lowest level. -/
theorem lvs_s (d : Fin 2) (h : Fin 3) : lvs (.dma (sS d h)) = 0 := by revert d h; decide

/-! ## A transfer -/

omit [FloatOps F] in
/-- A half chunk moved one level up on the neighbour is what the neighbour's buffer holds there. -/
theorem commA_step (d h : ℕ) (hd : d < 2) (hh : h < 3) (c : Dev nD) (i i' : S4x1024x4096.Idx) (h0 : (i 0).val = h) (h0' : (i' 0).val = h + 1)
    (h1 : (i 1).val / 512 = d) (h11 : (i 1).val = (i' 1).val) (h12 : (i 2).val = (i' 2).val) : commA m c i = commA m (tgt d c) i' := by
  unfold commA
  have e1 : i 1 = i' 1 := Fin.ext h11
  have e2 : i 2 = i' 2 := Fin.ext h12
  rw [h0, h0', ← e1, ← e2, h1]
  have : orig h d c = orig (h + 1) d (tgt d c) := by
    interval_cases d <;> interval_cases h <;> revert c <;> decide
  rw [this]

omit [FloatOps F] in
/-- What a transfer writes on the neighbour. -/
theorem write_half (d h : ℕ) (hd : d < 2) (hh : h < 3) (c : Dev nD) {off₁ off₂ : Fin 3 → ℕ} {inb₁ inb₂} (e₁ : off₁ = ![h, 512 * d, 0]) (e₂ : off₂ = ![h + 1, 512 * d, 0])
    (fd : S4x1024x4096.Idx → Elt F .fp8e4m3) (i : S4x1024x4096.Idx) (hi : i ∈ hSet (h + 1) d) :
    (halfV off₂ inb₂).view.write (Elt F) fd ((halfV off₁ inb₁).view.read (Elt F) (commA m c)) Finset.univ i = commA m (tgt d c) i := by
  have hi' : i ∈ ((halfV off₂ inb₂).view.set : Finset S4x1024x4096.Idx) := by rw [halfV_set (h + 1) d off₂ inb₂ e₂]; exact hi
  obtain ⟨x, -, rfl⟩ := Finset.mem_map.mp hi'
  refine ((halfV off₂ inb₂).view.write_emb_of_mem fd _ (Finset.mem_univ x)).trans ?_
  show (halfV off₁ inb₁).view.read (Elt F) (commA m c) x = _
  show commA m c ((halfV off₁ inb₁).view.emb x) = commA m (tgt d c) ((halfV off₂ inb₂).view.emb x)
  have x0 : (x 0).val < 512 := (x 0).isLt
  subst e₁ e₂
  have a0 : ((halfV _ inb₁).view.emb x 0).val = h := halfV_emb _ inb₁ x 0
  have a1 : ((halfV _ inb₁).view.emb x 1).val = 512 * d + (x 0).val := halfV_emb _ inb₁ x 1
  have a2 : ((halfV _ inb₁).view.emb x 2).val = (x 1).val := (halfV_emb _ inb₁ x 2).trans (Nat.zero_add _)
  have b0 : ((halfV _ inb₂).view.emb x 0).val = h + 1 := halfV_emb _ inb₂ x 0
  have b1 : ((halfV _ inb₂).view.emb x 1).val = 512 * d + (x 0).val := halfV_emb _ inb₂ x 1
  have b2 : ((halfV _ inb₂).view.emb x 2).val = (x 1).val := (halfV_emb _ inb₂ x 2).trans (Nat.zero_add _)
  refine commA_step m d h hd hh c _ _ a0 b0 ?_ ?_ ?_
  · exact (congrArg (· / 512) a1).trans (by dsimp only; omega)
  · exact a1.trans b1.symm
  · exact a2.trans b2.symm

/-- A TRANSFER: the source half chunk's left share and the neighbour's landing region go, the send wait's credit comes
    and what is owed falls by the landing. -/
theorem wp_hop (K : Dev nD × Fin 13 → ℕ) (c n : Dev nD) (k : ℕ) (d : Fin 2) (h : Fin 3) (hn : n = tgt d.val c) (hd : sd k = d) (hh : sh k = h)
    {off₁ off₂ : Fin 3 → ℕ} {inb₁ inb₂} (e₁ : off₁ = ![h.val, 512 * d.val, 0]) (e₂ : off₂ = ![h.val + 1, 512 * d.val, 0])
    {sq vq : DmaSem sig} (hsq : sq = sS d h) (hvq : vq = vS d h)
    {hsc : (halfV off₂ inb₂ : Memref sig (Dev.tc n : Thread nD τ).2.kind .vmem S512x4096 .fp8e4m3).view.ref.isScScratch = false}
    {hsrc : (halfV off₁ inb₁).view.WordExact} {hdst : (halfV off₂ inb₂).view.WordExact}
    {hsem : DmaTarget.Typed .vmem (.dma vq) (.remote (Dev.tc n : Thread nD τ) (halfV off₂ inb₂) (.dma sq) hsc)}
    {α : Type} {Q : α → sProp 𝕄} {kk : PUnit → Prog (TpuEff nD τ sig (Elt F) Λ₀ .tc) α} :
    iprop(records m K ∗ cPts c h.val d.val fullShare.left (commA m c) ∗ (∃ f, cPts (tgt d.val c) (h.val + 1) d.val fullShare f)
        ∗ owing c (rem c (k + 1)) ∗ hopToks c d h)
      ⊢ iprop(((sndKit c d h ∗ owing c (rem c k)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (halfV off₁ inb₁) (.remote (Dev.tc n : Thread nD τ) (halfV off₂ inb₂) (.dma sq) hsc) (.dma vq) hsrc hdst hsem) kk) Q) := by
  have hO : rem c (k + 1) = rem c k + tallyAt (vCell (tgt d.val c) d h) () N := by subst hd hh; rfl
  subst hn hsq hvq
  have hpay₁ : (((halfV off₁ inb₁).view.loc (c : Thread nD τ)) ↦[(halfV off₁ inb₁).view.set]{fullShare.left} (commA m c) : sProp 𝕄)
      = cPts c h.val d.val fullShare.left (commA m c) := by
    unfold cPts; rw [← halfV_set _ _ off₁ inb₁ e₁]
  have hpay₂ (fd : S4x1024x4096.Idx → Elt F .fp8e4m3) :
      (((halfV off₂ inb₂).view.loc (tgt d.val c : Thread nD τ)) ↦[(halfV off₂ inb₂).view.set]{fullShare} fd : sProp 𝕄)
      = cPts (tgt d.val c) (h.val + 1) d.val fullShare fd := by
    unfold cPts; rw [← halfV_set _ _ off₂ inb₂ e₂]
  unfold owing hopToks sndKit
  iintro ⟨#HR, Hs, ⟨%fd, Hd⟩, ⟨%W, HO⟩, Ht1, Ht2, Hat⟩ Hk
  ihave Hs := (Entails.of_eq hpay₁.symm) $$ Hs
  ihave Hd := (Entails.of_eq (hpay₂ fd).symm) $$ Hd
  have hp₁ : (((halfV off₁ inb₁).view.loc (c : Thread nD τ)) ↦[(halfV off₁ inb₁).view.set]{fullShare.left} (commA m c) : sProp 𝕄)
      ⊢ (rd m).payload (sCell c d h) 0 false := by rw [payload_s]; exact Entails.of_eq hpay₁
  have hp₂ : (((halfV off₂ inb₂).view.loc (tgt d.val c : Thread nD τ)) ↦[(halfV off₂ inb₂).view.set]{fullShare}
        ((halfV off₂ inb₂).view.write (Elt F) fd ((halfV off₁ inb₁).view.read (Elt F) (commA m c)) Finset.univ) : sProp 𝕄)
      ⊢ (rd m).payload (vCell (tgt d.val c) d h) 0 false := by
    rw [payload_v, hpay₂]; unfold cPts
    exact Entails.of_eq (pointsTo_congr fun i hi => write_half m _ _ d.isLt h.isLt c e₁ e₂ fd i hi)
  have hN : (halfV off₂ inb₂).view.amount (.dma (vS d h)) = N := half_credit off₂ inb₂
  have H := Rounds.wp_send_pointsTo (defs := defs₀ (F := F)) 𝒱₀ ER (rd m) (c : Thread nD τ) none (κ₁ := K (c, sIx d h)) (κ₂ := K (tgt d.val c, vIx d h))
    (r₁ := 0) (r₂ := 0) (d₁ := false) (d₂ := false) (fd := fd) (c' := (tgt d.val c : Thread nD τ)) (Q := Q) (k := kk) (q := fullShare.left)
    (hsc := hsc) (hsrc := hsrc) (hdst := hdst) (hsem := hsem)
    (by rw [duties_dma m c _ (sS_mem _ _)]; exact Finset.mem_singleton_self _) (by rw [duties_dma m _ _ (vS_mem _ _)]; exact Finset.mem_singleton_self _)
    () () N hN (amount_dma m c _ false) (amount_dma m _ _ false) (rem c k) hO (W := W) hp₁ hp₂ (Es := Set.univ) (Γ := .empty)
  iapply H $$ [Hs Hd HO Ht1 Ht2]
  · isplitr; · iapply (inv_s m K c d h); iexact HR
    isplitr; · iapply (inv_v m K (tgt d.val c) d h); iexact HR
    isplitl [Hs]; · iexact Hs
    isplitl [Hd]; · iexact Hd
    isplitl [HO]; · iexact HO
    isplitl [Ht1]; · iexact Ht1
    isplitr; · iapply (reached_s m K c d h); iexact HR
    isplitl [Ht2]; · iexact Ht2
    iapply (reached_v m K (tgt d.val c) d h); iexact HR
  iintro ⟨Hc, HO⟩
  iapply Hk
  isplitl [Hc Hat]
  · isplitl [Hc] <;> iassumption
  iexists W; iexact HO

/-! ## A wait on a cell of the protocol -/

/-- A WAIT on a DMA cell, owing what is still to be sent: the cell's payload, the position advanced. -/
theorem wp_wait_cell (c : Dev nD) (q : DmaSem sig) (hq : 3 ≤ q.val ∧ q.val < 15) (κ : ℕ) (k n : ℕ) (hs : lvs (.dma q) ≤ n) (hk : ∀ j < k, n < 2 + (sh j).val)
    {q' : DmaSem sig} (hq' : q' = q)
    {s' : Shape} {e' : EltTy} {sp' sp : CoreSpace} {off : Fin 3 → ℕ} {inb} {src : Memref sig .tc sp' s' e'} {hsrc : src.view.WordExact} {hdst : (halfV off inb).view.WordExact}
    {α : Type} {Q : α → sProp 𝕄} {kk : PUnit → Prog (TpuEff nD τ sig (Elt F) Λ₀ .tc) α} :
    iprop(cellInv ER (rd m) κ ((c : Thread nD τ), .dma q) ∗ levAts L lv ∗ (cred (tallyAt ((c : Thread nD τ), SemLoc.dma q) () N) ∗ atPos ER ((c : Thread nD τ), .dma q) 0 ∅ 0)
        ∗ owing c (rem c k))
      ⊢ iprop(((owing c (rem c k) ∗ atPos ER ((c : Thread nD τ), .dma q) (0 + 1) ∅ 0
            ∗ (rd (F := F) m).payload ((c : Thread nD τ), .dma q) 0 false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q' src (halfV off inb) hsrc hdst) kk) Q) := by
  subst hq'
  unfold owing
  iintro ⟨#HI, Hlev, ⟨Hc, Hat⟩, ⟨%W, HO⟩⟩ Hk
  iapply (Rounds.wp_wait_rest_token 𝒱₀ ER (rd m) (c : Thread nD τ) none (κ := κ)
      (wpE_waitDma2_eq 𝒱₀ (c : Thread nD τ) none Set.univ) (Set.mem_univ _) () (O := rem c k) (W := W) (R := 0) (m := 0) (T := ∅)
      (by rw [Nat.zero_add, half_credit, expect_dma m c _ hq])) $$ [Hc HO Hlev Hat]
  · isplitr; · iexact HI
    isplitl [Hc]; · iexact Hc
    isplitl [HO]; · iexact HO
    isplitl [Hlev]; · iapply (mayWait_rem c (.dma q') k n hs hk); iexact Hlev
    iexact Hat
  iintro ⟨HO, Hat, -, Hpay⟩
  iapply Hk
  isplitl [HO]; · iexists _; iexact HO
  isplitl [Hat]; · iexact Hat
  iapply (Entails.of_eq (rest_dma m c q' hq)); iexact Hpay

/-- The wait for a landing: the half chunk, at what the buffer holds there. -/
theorem wp_land (K : Dev nD × Fin 13 → ℕ) (c : Dev nD) (d : Fin 2) (h : Fin 3) (k : ℕ) (hk : ∀ j < k, h.val < (sh j).val)
    {q' : DmaSem sig} (hq' : q' = vS d h)
    {s' : Shape} {e' : EltTy} {sp' : CoreSpace} {off : Fin 3 → ℕ} {inb} {src : Memref sig .tc sp' s' e'} {hsrc : src.view.WordExact} {hdst : (halfV off inb).view.WordExact}
    {α : Type} {Q : α → sProp 𝕄} {kk : PUnit → Prog (TpuEff nD τ sig (Elt F) Λ₀ .tc) α} :
    iprop(records m K ∗ levAts L lv ∗ rcvKit c d h ∗ owing c (rem c k))
      ⊢ iprop(((owing c (rem c k) ∗ atPos ER (vCell c d h) (0 + 1) ∅ 0
            ∗ cPts c (h.val + 1) d.val fullShare (commA m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q' src (halfV off inb) hsrc hdst) kk) Q) := by
  have := wp_wait_cell m c (vS d h) (vS_mem d h) (K (c, vIx d h)) k (2 + h.val) (by rw [lvs_v]) (fun j hj => by have := hk j hj; omega) hq'
    (sp := sp') (src := src) (hsrc := hsrc) (hdst := hdst) (Q := Q) (kk := kk)
  rw [payload_v] at this
  unfold rcvKit
  exact (sep_mono_left (inv_v m K c d h)).trans this

/-- The wait for a transfer's source: its left share back. -/
theorem wp_sent (K : Dev nD × Fin 13 → ℕ) (c : Dev nD) (d : Fin 2) (h : Fin 3)
    {q' : DmaSem sig} (hq' : q' = sS d h)
    {s' : Shape} {e' : EltTy} {sp' : CoreSpace} {off : Fin 3 → ℕ} {inb} {src : Memref sig .tc sp' s' e'} {hsrc : src.view.WordExact} {hdst : (halfV off inb).view.WordExact}
    {α : Type} {Q : α → sProp 𝕄} {kk : PUnit → Prog (TpuEff nD τ sig (Elt F) Λ₀ .tc) α} :
    iprop(records m K ∗ levAts L lv ∗ sndKit c d h ∗ owing c (rem c 0))
      ⊢ iprop(((owing c (rem c 0) ∗ atPos ER (sCell c d h) (0 + 1) ∅ 0
            ∗ cPts c h.val d.val fullShare.left (commA m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q' src (halfV off inb) hsrc hdst) kk) Q) := by
  have := wp_wait_cell m c (sS d h) (sS_mem d h) (K (c, sIx d h)) 0 0 (Nat.le_of_eq (lvs_s d h)) (fun j hj => absurd hj (Nat.not_lt_zero j)) hq'
    (sp := sp') (src := src) (hsrc := hsrc) (hdst := hdst) (Q := Q) (kk := kk)
  rw [payload_s] at this
  unfold sndKit
  exact (sep_mono_left (inv_s m K c d h)).trans this

end Cert.RingMM

end
-- ==== Proof.Lanes.lean ====
/-
# Lanes of the result, levels of the exchange buffer

The result leaves by four lanes, one per kind and column half: a quadrant of the accumulator is copied to the rows
of the device whose half chunk it was computed from. A unit reads one level of the exchange buffer and one column
half of the narrowed weight, and fills one column half of the accumulator.
-/
module

public import proofs.«01_k».proof.Proof.Hops

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Lanes -/

/-- The result copies' semaphores lie in their array. -/
theorem u_sem_inb : ∀ d nh : Fin 2, ∀ a, (![d.val, nh.val] : Fin 2 → ℕ) a + S1x1.size a ≤ S2x2.size a := by decide
/-- The semaphore the program names for a lane of the result is that lane's. -/
theorem u_sem_at : ∀ d nh : Fin 2, ((cc0_scratch7.slice (Rect.unit (s := S2x2) ![d.val, nh.val] S1x1.size (u_sem_inb d nh))).squeeze S_ squeezes_S1x1_S_).sem = uS d nh := by decide +kernel
/-- The semaphore of a lane. -/
theorem u_sem_eq (d nh : Fin 2) (off) (inb) (e : off = ![d.val, nh.val]) :
    ((cc0_scratch7.slice (Rect.unit (s := S2x2) off S1x1.size inb)).squeeze S_ squeezes_S1x1_S_).sem = uS d nh := by
  subst e; exact u_sem_at d nh

/-- A result copy's semaphore is at the lowest level. -/
theorem lvs_u (d nh : Fin 2) : lvs (.dma (uS d nh)) = 0 := by revert d nh; decide

/-- The credit of a quadrant. -/
abbrev Nu : ℕ := (outV ![0, 0] (by decide)).view.dmaCredit
/-- A result copy credits something. -/
theorem Nu_pos : 0 < Nu := View.dmaCredit_pos _ (by decide)
/-- Every result copy credits the same. -/
theorem out_credit (off) (inb) : (outV off inb).view.dmaCredit = Nu := rfl

/-- The accumulator with the product of level `ℓ` and column half `nh` in its column halves. -/
def fA (c : Dev nD) (ℓ : Fin 4) (nh : Fin 2) : S1024x2048.Idx → Elt F .bf16 := fun i => accA m c ℓ nh (ix2 (i 0) ⟨(i 1).val % 1024, Nat.mod_lt _ (by decide)⟩)

/-- A quadrant of the accumulator; a lane of the result with its first `t` levels written. -/
def qPts (c : Dev nD) (d nh : ℕ) (f : S1024x2048.Idx → Elt F .bf16) : sProp 𝕄 := ((c : Thread nD τ).loc cc0_scratch1) ↦[qSet d nh]{fullShare} f
def lanePts (c : Dev nD) (d nh t : ℕ) : sProp 𝕄 :=
  iprop(∃ g : S4096x2048.Idx → Elt F .bf16, ⌜∀ i ∈ lSet d nh, (lvlOf d ((i 0).val / 1024) c).val < t → g i = outA m c i⌝
    ∗ (((c : Thread nD τ).loc main_v1) ↦[lSet d nh]{fullShare} g))

/-- A lane idle with its first `t` levels written, with the quadrant filled, and with a copy under way. -/
def uIdle (c : Dev nD) (d nh : Fin 2) (t : ℕ) : sProp 𝕄 :=
  iprop(semVal ((c : Thread nD τ), SemLoc.dma (uS d nh)) 0 ∗ lanePts m c d.val nh.val t ∗ ∃ f, qPts c d.val nh.val f)
def uFull (c : Dev nD) (d nh : Fin 2) (t : Fin 4) : sProp 𝕄 :=
  iprop(semVal ((c : Thread nD τ), SemLoc.dma (uS d nh)) 0 ∗ lanePts m c d.val nh.val t.val ∗ qPts c d.val nh.val (fA m c t nh))
def uBusy (c : Dev nD) (d nh : Fin 2) (t : ℕ) : sProp 𝕄 :=
  Transfers.Flight EC (c : Thread nD τ) (.dma (uS d nh)) () Nu iprop(lanePts m c d.val nh.val t ∗ ∃ f, qPts c d.val nh.val f)
/-- A lane after `t` copies started. -/
def uSt (c : Dev nD) (d nh : Fin 2) (t : ℕ) : sProp 𝕄 := if t = 0 then uIdle m c d nh 0 else uBusy m c d nh t

/-- The rows of device `o` are computed at level `ℓ` when `o` is where level `ℓ` comes from. -/
theorem lvlOf_orig : ∀ (d : Fin 2) (ℓ o : Fin 4) (c : Dev nD), lvlOf d.val o.val c = ℓ ↔ o.val = (orig ℓ.val d.val c).val := by decide

/-- What a quadrant's copy leaves in its lane. -/
theorem write_out (c : Dev nD) (d nh : Fin 2) (t : Fin 4) {off₁ off₂ inb₁ inb₂} (e₁ : off₁ = ![512 * d.val, 1024 * nh.val])
    (e₂ : off₂ = ![1024 * (orig t.val d.val c).val + 512 * d.val, 1024 * nh.val])
    (g : S4096x2048.Idx → Elt F .bf16) (hg : ∀ i ∈ lSet d.val nh.val, (lvlOf d.val ((i 0).val / 1024) c).val < t.val → g i = outA m c i)
    (i : S4096x2048.Idx) (hi : i ∈ lSet d.val nh.val) (hl : (lvlOf d.val ((i 0).val / 1024) c).val < t.val + 1) :
    (outV off₂ inb₂).view.write (Elt F) g ((quadV off₁ inb₁).view.read (Elt F) (fA m c t nh)) Finset.univ i = outA m c i := by
  obtain ⟨hi0, hi1⟩ := mem_lSet.mp hi
  have b0 : (i 0).val < 4096 := (i 0).isLt
  have b1 : (i 1).val < 2048 := (i 1).isLt
  have ho : (i 0).val / 1024 < 4 := by omega
  have hor := lvlOf_orig d t ⟨(i 0).val / 1024, ho⟩ c
  by_cases h : (lvlOf d.val ((i 0).val / 1024) c).val = t.val
  · have hlt : lvlOf d.val ((i 0).val / 1024) c = t := Fin.ext h
    have ho' : (i 0).val / 1024 = (orig t.val d.val c).val := hor.mp hlt
    subst e₁ e₂
    have hx : i = (outV _ inb₂).view.emb (ix2 ⟨(i 0).val % 512, Nat.mod_lt _ (by decide)⟩ ⟨(i 1).val % 1024, Nat.mod_lt _ (by decide)⟩) := by
      funext a
      refine Fin.ext ?_
      refine Eq.trans ?_ (outV_emb _ inb₂ _ a).symm
      match a with
      | 0 => show (i 0).val = 1024 * (orig t.val d.val c).val + 512 * d.val + (i 0).val % 512; omega
      | 1 => show (i 1).val = 1024 * nh.val + (i 1).val % 1024; omega
    conv_lhs => rw [hx]
    refine ((outV _ inb₂).view.write_emb_of_mem g _ (Finset.mem_univ _)).trans ?_
    show fA m c t nh ((quadV _ inb₁).view.emb _) = _
    unfold fA outA
    have a0 : ((quadV _ inb₁).view.emb (ix2 ⟨(i 0).val % 512, Nat.mod_lt _ (by decide)⟩ ⟨(i 1).val % 1024, Nat.mod_lt _ (by decide)⟩) 0).val = 512 * d.val + (i 0).val % 512 := quadV_emb _ inb₁ _ 0
    have a1 : ((quadV _ inb₁).view.emb (ix2 ⟨(i 0).val % 512, Nat.mod_lt _ (by decide)⟩ ⟨(i 1).val % 1024, Nat.mod_lt _ (by decide)⟩) 1).val = 1024 * nh.val + (i 1).val % 1024 := quadV_emb _ inb₁ _ 1
    have el : lvlOf ((i 0).val / 512 % 2) ((i 0).val / 1024) c = t := by rw [hi0]; exact hlt
    have en : (⟨(i 1).val / 1024, by have := (i 1).isLt; simp at this; omega⟩ : Fin 2) = nh := Fin.ext hi1
    rw [el, en]
    refine congrArg (accA m c t nh) (funext fun a => Fin.ext ?_)
    match a with
    | 0 => exact a0.trans (by show _ = (i 0).val % 1024; omega)
    | 1 => show (_ : ℕ) % 1024 = (i 1).val % 1024
           exact (congrArg (· % 1024) a1).trans (by dsimp only; omega)
  · rw [View.write_of_not_mem]
    · exact hg i hi (by omega)
    · intro hm
      subst e₂
      have h3 : i ∈ (Rect.unit (s := S4096x2048) ![1024 * (orig t.val d.val c).val + 512 * d.val, 1024 * nh.val] S512x1024.size inb₂).set := by
        rw [← View.set_slice_whole main_v1]; exact hm
      have h4 := (Rect.mem_set_unit.mp h3) 0
      simp at h4
      exact h (congrArg Fin.val (hor.mpr (by show (i 0).val / 1024 = _; omega)))

/-- A quadrant's copy starts. -/
theorem wp_out (c : Dev nD) (d nh : Fin 2) (t : Fin 4) {off₁ off₂ inb₁ inb₂} (e₁ : off₁ = ![512 * d.val, 1024 * nh.val])
    (e₂ : off₂ = ![1024 * (orig t.val d.val c).val + 512 * d.val, 1024 * nh.val])
    {q : DmaSem sig} (hq : q = uS d nh) {hsrc hdst hsem}
    {α : Type} {Q : α → sProp 𝕄} {kk : PUnit → Prog (TpuEff nD τ sig (Elt F) Λ₀ .tc) α} :
    uFull m c d nh t
      ⊢ iprop((uBusy m c d nh (t.val + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (quadV off₁ inb₁) (.here (outV off₂ inb₂)) (.dma q) hsrc hdst hsem) kk) Q) := by
  subst hq
  unfold uFull uBusy lanePts
  iintro ⟨Hv, ⟨%g, %hg, Hl⟩, Hq⟩ Hk
  have hw : qPts c d.val nh.val (fA m c t nh) = ((quadV off₁ inb₁).view.loc (c : Thread nD τ) ↦[(quadV off₁ inb₁).view.set]{fullShare} (fA m c t nh) : sProp 𝕄) := by
    unfold qPts; rw [← quadV_set d.val nh.val off₁ inb₁ e₁]
  have H := Transfers.wp_dmaLocal EC (defs := defs₀ (F := F)) 𝒱₀ (c : Thread nD τ) none (src := quadV off₁ inb₁) (via := .same) (dst := outV off₂ inb₂) (sm := .dma (uS d nh))
    (hsrc := hsrc) (hdst := hdst) (hsem := hsem) (k := kk) (Q := Q) (q := fullShare) (fs := fA m c t nh) (Sd := lSet d.val nh.val) (fd := g) () Nu
    (out_credit off₂ inb₂) Nu_pos (outV_set _ _ _ d.isLt off₂ inb₂ e₂)
  iapply H $$ [Hv Hl Hq]
  · isplitl [Hq]; · iapply (Entails.of_eq hw); iexact Hq
    isplitl [Hl]; · iexact Hl
    iexact Hv
  iintro HF
  iapply Hk
  have hD : iprop(((outV off₂ inb₂).view.loc (c : Thread nD τ) ↦[lSet d.val nh.val]{fullShare}
        ((outV off₂ inb₂).view.write (Elt F) g ((ReadAs.same (Val := Elt F)).apply ((quadV off₁ inb₁).view.read (Elt F) (fA m c t nh))) Finset.univ))
      ∗ ((quadV off₁ inb₁).view.loc (c : Thread nD τ) ↦[(quadV off₁ inb₁).view.set]{fullShare} (fA m c t nh)))
      ⊢ (iprop((∃ g : S4096x2048.Idx → Elt F .bf16, ⌜∀ i ∈ lSet d.val nh.val, (lvlOf d.val ((i 0).val / 1024) c).val < t.val + 1 → g i = outA m c i⌝
          ∗ (((c : Thread nD τ).loc main_v1) ↦[lSet d.val nh.val]{fullShare} g)) ∗ ∃ f, qPts c d.val nh.val f) : sProp 𝕄) := by
    iintro ⟨H1, H2⟩
    isplitl [H1]
    · iexists ((outV off₂ inb₂).view.write (Elt F) g ((quadV off₁ inb₁).view.read (Elt F) (fA m c t nh)) Finset.univ)
      isplitr; · ipureintro; exact fun i hi hl => write_out m c d nh t e₁ e₂ g hg i hi hl
      iexact H1
    · iexists (fA m c t nh)
      iapply (Entails.of_eq hw.symm); iexact H2
  iapply (Transfers.Flight_mono EC (c : Thread nD τ) hD); iexact HF

/-- A quadrant's copy is waited for. -/
theorem wp_outed (c : Dev nD) (d nh : Fin 2) (t k : ℕ) {q : DmaSem sig} (hq : q = uS d nh)
    {s' : Shape} {e' : EltTy} {sp' : Space} {off : Fin 2 → ℕ} {inb} {src : Memref sig .tc sp' s' e'} {hsrc : src.view.WordExact} {hdst : (outV off inb).view.WordExact}
    {α : Type} {Q : α → sProp 𝕄} {kk : PUnit → Prog (TpuEff nD τ sig (Elt F) Λ₀ .tc) α} :
    iprop(levAts L lv ∗ uBusy m c d nh t ∗ owing c (rem c k))
      ⊢ iprop(((uIdle m c d nh t ∗ owing c (rem c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src (outV off inb) hsrc hdst) kk) Q) := by
  subst hq
  unfold owing uBusy uIdle
  iintro ⟨Hlev, HF, ⟨%W, HO⟩⟩ Hk
  iapply (Transfers.wp_waitLocalO EC 𝒱₀ (c : Thread nD τ) none (defs := defs₀ (F := F)) () (out_credit off inb) (O := rem c k) (W := W)) $$ [HF HO Hlev]
  · isplitl [HF]; · iexact HF
    isplitl [HO]; · iexact HO
    iapply (mayWait_rem c (.dma (uS d nh)) k 0 (Nat.le_of_eq (lvs_u d nh)) (fun j _ => by omega)); iexact Hlev
  iintro ⟨⟨Hl, Hq⟩, Hv, HO⟩
  iapply Hk
  isplitl [Hv Hl Hq]
  · isplitl [Hv]; · iexact Hv
    isplitl [Hl] <;> iassumption
  iexists _; iexact HO

/-! ## A level loaded -/

/-- The two halves of a level are disjoint. -/
theorem hSet_disj (ℓ : ℕ) : Disjoint (hSet ℓ 0) (hSet ℓ 1) := by
  rw [Finset.disjoint_left]; intro i h0 h1
  have := (mem_hSet.mp h0).2; have := (mem_hSet.mp h1).2; omega

/-- A load of a whole level stays in its two halves. -/
theorem level_access (ℓ : ℕ) (off) (inb) (e : off = ![ℓ, 0, 0]) :
    ((cM.access (Rect.unit (s := S4x1024x4096) off S1x1024x4096.size inb)).set : Finset S4x1024x4096.Idx) ⊆ hSet ℓ 0 ∪ hSet ℓ 1 := by
  subst e
  show ((View.whole cc0_scratch0).slice _).set ⊆ _
  rw [View.set_slice_whole]
  intro i
  rw [Rect.mem_set_unit, Finset.mem_union, mem_hSet, mem_hSet]
  intro H
  have h0 := H 0
  simp at h0
  have h1 : (i 1).val < 1024 := (i 1).isLt
  omega

omit [FloatOps F] in
/-- What a unit loads of the exchange buffer: the level. -/
theorem load_level (c : Dev nD) (ℓ : Fin 4) {off inb} (e : off = ![ℓ.val, 0, 0]) :
    cM.view.readAt (Elt F) (Rect.unit (s := S4x1024x4096) off S1x1024x4096.size inb).toLoadRect (commA m c) = lvlA m c ℓ := by
  subst e
  funext y
  show commA m c _ = _
  unfold lvlA
  have y0 : (y 0).val < 1 := (y 0).isLt
  refine congrArg (commA m c) (funext fun a => Fin.ext ?_)
  match a with
  | 0 => show ℓ.val + 1 * (y 0).val = ℓ.val; omega
  | 1 => show 0 + 1 * (y 1).val = (y 1).val; omega
  | 2 => show 0 + 1 * (y 2).val = (y 2).val; omega

/-- The two half chunks of a level loaded, at any share. -/
theorem wp_level (c : Dev nD) (ℓ : Fin 4) (q : PosShare TreeShare) {off inb} (e : off = ![ℓ.val, 0, 0]) {hl}
    {α : Type} {Q : α → sProp 𝕄} {kk : (S1x1024x4096.Idx → Elt F .fp8e4m3) → Prog (TpuEff nD τ sig (Elt F) Λ₀ .tc) α} :
    iprop(cPts c ℓ.val 0 q (commA m c) ∗ cPts c ℓ.val 1 q (commA m c))
      ⊢ iprop(((cPts c ℓ.val 0 q (commA m c) ∗ cPts c ℓ.val 1 q (commA m c)) -∗ wp frame (wpE (defs₀ (F := F)) 𝒱₀ (c : Thread nD τ) none) Set.univ (kk (lvlA m c ℓ)) Q)
          -∗ wp frame (wpE (defs₀ (F := F)) 𝒱₀ (c : Thread nD τ) none) Set.univ
              (.op (.load cM (Rect.unit (s := S4x1024x4096) off S1x1024x4096.size inb).toLoadRect hl) kk) Q) := by
  have hj : iprop(cPts c ℓ.val 0 q (commA m c) ∗ cPts c ℓ.val 1 q (commA m c)) ⊣⊢ (((c : Thread nD τ).loc cc0_scratch0) ↦[hSet ℓ.val 0 ∪ hSet ℓ.val 1]{q} commA m c : sProp 𝕄) := by
    unfold cPts; exact ⟨(pointsTo_union (hSet_disj ℓ.val)).2, (pointsTo_union (hSet_disj ℓ.val)).1⟩
  iintro H Hk
  ihave H := hj.1 $$ H
  iapply (wp_load 𝒱₀ (c : Thread nD τ) none Set.univ (m := cM) (S := hSet ℓ.val 0 ∪ hSet ℓ.val 1) (f := commA m c) (q := q) ?hS) $$ H
  case hS => exact Memref.setOn_subset_of_access_subset (c : Thread nD τ) (level_access ℓ.val off inb e)
  iintro H
  rw [load_level m c ℓ e]
  iapply Hk
  iapply hj.2; iexact H

/-! ## A column half of the weight loaded, of the accumulator stored -/

/-- What a unit loads of the narrowed weight: the column half. -/
theorem load_col (c : Dev nD) (nh : Fin 2) {off inb} (e : off = ![0, 1024 * nh.val]) :
    eM.view.readAt (Elt F) (Rect.unit (s := S4096x2048) off S4096x1024.size inb).toLoadRect (w8A m c) = colA m c nh := by
  subst e
  funext y
  show w8A m c _ = _
  unfold colA
  refine congrArg (w8A m c) (funext fun a => Fin.ext ?_)
  match a with
  | 0 => show 0 + 1 * (y 0).val = (y 0).val; omega
  | 1 => show 1024 * nh.val + 1 * (y 1).val = 1024 * nh.val + (y 1).val; omega

/-- The two quadrants of a column half are disjoint. -/
theorem qSet_disj (nh : ℕ) : Disjoint (qSet 0 nh) (qSet 1 nh) := by
  rw [Finset.disjoint_left]; intro i h0 h1
  have := (mem_qSet.mp h0).1; have := (mem_qSet.mp h1).1; omega

/-- A store of a column half stays in its two quadrants. -/
theorem half_access (nh : ℕ) (off) (inb) (e : off = ![0, 1024 * nh]) :
    ((aM.access (Rect.unit (s := S1024x2048) off S1024x1024.size inb)).set : Finset S1024x2048.Idx) ⊆ qSet 0 nh ∪ qSet 1 nh := by
  subst e
  show ((View.whole cc0_scratch1).slice _).set ⊆ _
  rw [View.set_slice_whole]
  intro i
  rw [Rect.mem_set_unit, Finset.mem_union, mem_qSet, mem_qSet]
  intro H
  have h1 := H 1
  simp at h1
  have h0 : (i 0).val < 1024 := (i 0).isLt
  omega

/-- What a unit stores: the scaled product, in its column half of the accumulator. -/
theorem store_half (c : Dev nD) (ℓ : Fin 4) (nh : Fin 2) {off inb} (e : off = ![0, 1024 * nh.val]) (f : S1024x2048.Idx → Elt F .bf16)
    (i : S1024x2048.Idx) (hi : (i 1).val / 1024 = nh.val) :
    (aM.access (Rect.unit (s := S1024x2048) off S1024x1024.size inb)).write (Elt F) f (accA m c ℓ nh) Finset.univ i = fA m c ℓ nh i := by
  subst e
  have hx : i = (aM.access (Rect.unit (s := S1024x2048) ![0, 1024 * nh.val] S1024x1024.size inb)).emb (ix2 (i 0) ⟨(i 1).val % 1024, Nat.mod_lt _ (by decide)⟩) := by
    funext a
    refine Fin.ext ?_
    match a with
    | 0 => show (i 0).val = 0 + 1 * (i 0).val; omega
    | 1 => show (i 1).val = 1024 * nh.val + 1 * ((i 1).val % 1024); omega
  conv_lhs => rw [hx]
  exact (aM.access (Rect.unit (s := S1024x2048) ![0, 1024 * nh.val] S1024x1024.size inb)).write_emb_of_mem f _ (Finset.mem_univ _)

/-- The accumulator's column half read (the value is not used) and stored: both its quadrants filled. -/
theorem wp_half (c : Dev nD) (ℓ : Fin 4) (nh : Fin 2) {off inb} (e : off = ![0, 1024 * nh.val]) {hl hx hm} {v : S1024x1024.Idx → Elt F .bf16} (hv : v = accA m c ℓ nh)
    {α : Type} {Q : α → sProp 𝕄} {kk : Prog (TpuEff nD τ sig (Elt F) Λ₀ .tc) α} :
    iprop((∃ f, qPts c 0 nh.val f) ∗ (∃ f, qPts c 1 nh.val f))
      ⊢ iprop(((qPts c 0 nh.val (fA m c ℓ nh) ∗ qPts c 1 nh.val (fA m c ℓ nh)) -∗ wp frame (wpE (defs₀ (F := F)) 𝒱₀ (c : Thread nD τ) none) Set.univ kk Q)
          -∗ wp frame (wpE (defs₀ (F := F)) 𝒱₀ (c : Thread nD τ) none) Set.univ
              (.op (.load aM (Rect.unit (s := S1024x2048) off S1024x1024.size inb).toLoadRect hl) fun _ =>
                .op (.store aM (Rect.unit (s := S1024x2048) off S1024x1024.size inb) v Finset.univ hx hm) fun _ => kk) Q) := by
  subst hv
  unfold qPts
  iintro ⟨⟨%f, H0⟩, ⟨%g, H1⟩⟩ Hk
  have hj := pointsTo_join (Val := Elt F) (Ix := Unit) (Name := ℕ) (U := UU) (Lvl := ℕ) (ℓ := (c : Thread nD τ).loc cc0_scratch1) (q := fullShare) (f := f) (g := g) (qSet_disj nh.val)
  ihave H := hj $$ [H0 H1]
  · isplitl [H0] <;> iassumption
  iapply (wp_load 𝒱₀ (c : Thread nD τ) none Set.univ (m := aM) (S := qSet 0 nh.val ∪ qSet 1 nh.val) (q := fullShare) ?hS) $$ H
  case hS => exact Memref.setOn_subset_of_access_subset (c : Thread nD τ) (half_access nh.val off inb e)
  iintro H
  iapply (wp_store 𝒱₀ (c : Thread nD τ) none Set.univ (m := aM) (r := Rect.unit (s := S1024x2048) off S1024x1024.size inb) (Mk := Finset.univ) (S := qSet 0 nh.val ∪ qSet 1 nh.val) ?hS) $$ H
  case hS => exact half_access nh.val off inb e
  iintro H
  ihave H := (pointsTo_union (qSet_disj nh.val)).1 $$ H
  icases H with ⟨H0, H1⟩
  iapply Hk
  isplitl [H0]
  · iapply (Entails.of_eq (pointsTo_congr (f := (aM.access (Rect.unit (s := S1024x2048) off S1024x1024.size inb)).write (Elt F) ((qSet 1 nh.val).piecewise g f) (accA m c ℓ nh) Finset.univ)
      fun i hi => store_half m c ℓ nh e _ i (mem_qSet.mp hi).2)); iexact H0
  · iapply (Entails.of_eq (pointsTo_congr (f := (aM.access (Rect.unit (s := S1024x2048) off S1024x1024.size inb)).write (Elt F) ((qSet 1 nh.val).piecewise g f) (accA m c ℓ nh) Finset.univ)
      fun i hi => store_half m c ℓ nh e _ i (mem_qSet.mp hi).2)); iexact H1

end Cert.RingMM

end
-- ==== Proof.Units.lean ====
/-
# The unit loop

Eight units, two per level of the exchange buffer. Unit 3 waits for the second hop and starts the third; unit 6
waits for the third; from unit 2 on a unit waits for the two lanes it is about to refill. Each unit then multiplies
its level with its column half and starts two copies into the result.
-/
module

public import proofs.«01_k».proof.Proof.Lanes

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The exchange semaphores, the neighbours -/

/-- The hops' semaphores lie in their arrays. -/
theorem h_sem_inb : ∀ d : Fin 2, ∀ h : Fin 3, ∀ a, (![d.val, h.val] : Fin 2 → ℕ) a + S1x1.size a ≤ S2x3.size a := by decide
/-- The send semaphore the program names for a direction and hop is that one. -/
theorem s_sem_at : ∀ d : Fin 2, ∀ h : Fin 3, ((cc0_scratch4.slice (Rect.unit (s := S2x3) ![d.val, h.val] S1x1.size (h_sem_inb d h))).squeeze S_ squeezes_S1x1_S_).sem = sS d h := by decide +kernel
/-- The receive semaphore the program names for a direction and hop is that one. -/
theorem v_sem_at : ∀ d : Fin 2, ∀ h : Fin 3, ((cc0_scratch5.slice (Rect.unit (s := S2x3) ![d.val, h.val] S1x1.size (h_sem_inb d h))).squeeze S_ squeezes_S1x1_S_).sem = vS d h := by decide +kernel
/-- The send and the receive semaphore of a transfer. -/
theorem s_sem_eq (d : Fin 2) (h : Fin 3) (off) (inb) (e : off = ![d.val, h.val]) :
    ((cc0_scratch4.slice (Rect.unit (s := S2x3) off S1x1.size inb)).squeeze S_ squeezes_S1x1_S_).sem = sS d h := by subst e; exact s_sem_at d h
/-- The same, by the offsets at which the program names it. -/
theorem v_sem_eq (d : Fin 2) (h : Fin 3) (off) (inb) (e : off = ![d.val, h.val]) :
    ((cc0_scratch5.slice (Rect.unit (s := S2x3) off S1x1.size inb)).squeeze S_ squeezes_S1x1_S_).sem = vS d h := by subst e; exact v_sem_at d h

/-- A half chunk's full share is its left and its right share. -/
theorem cPts_share (c : Dev nD) (h d : ℕ) (f : S4x1024x4096.Idx → Elt F .fp8e4m3) :
    cPts c h d fullShare f ⊣⊢ iprop(cPts c h d fullShare.left f ∗ cPts c h d fullShare.right f) := by
  unfold cPts; exact pointsTo_share (PosShare.mem_left_op_right fullShare)

/-! ## What a unit holds -/

/-- The unit loop makes eight trips. -/
theorem trips2 : k0_t2_loop.trips = 8 := by decide
/-- The third hop starts at unit three. -/
theorem cond2_iff : ∀ t : Fin k0_t2_loop.trips, k0_cond2 t = 1#1 ↔ t.val = 3 := by decide +kernel
/-- The third hop's landing is awaited at unit six. -/
theorem cond3_iff : ∀ t : Fin k0_t2_loop.trips,
    Scalar.cmpi .ne (Scalar.extui (Scalar.cmpi .eq (Scf.iv 0#32 1#32 t.val) 6#32) : BitVec 32) 0#32 = 1#1 ↔ t.val = 6 := by decide +kernel
/-- From unit two on a unit waits for the earlier copy of its lane. -/
theorem cond4_iff : ∀ t : Fin k0_t2_loop.trips, k0_cond4 t = 1#1 ↔ 2 ≤ t.val := by decide +kernel

/-- Transfers still to start at unit `u`. -/
def rk (u : ℕ) : ℕ := if u ≤ 3 then 2 else 0
/-- Up to unit three two transfers are still to start. -/
theorem rk_le {u : ℕ} (h : u ≤ 3) : rk u = 2 := if_pos h
/-- After unit three none is. -/
theorem rk_gt {u : ℕ} (h : ¬ u ≤ 3) : rk u = 0 := if_neg h

/-- Before the third hop starts: what its start needs, the second hop's landings to come. -/
def preA (c : Dev nD) : sProp 𝕄 :=
  iprop(rcvKit c 0 1 ∗ rcvKit c 1 1 ∗ hopToks c 0 2 ∗ hopToks c 1 2 ∗ (∃ f, cPts (tgt 0 c) 3 0 fullShare f) ∗ ∃ f, cPts (tgt 1 c) 3 1 fullShare f)
/-- After it: the second hop landed, the third under way. -/
def postA (c : Dev nD) : sProp 𝕄 :=
  iprop(atPos ER (vCell c 0 1) (0 + 1) ∅ 0 ∗ atPos ER (vCell c 1 1) (0 + 1) ∅ 0 ∗ sndKit c 0 2 ∗ sndKit c 1 2
    ∗ cPts c 2 0 fullShare.right (commA m c) ∗ cPts c 2 1 fullShare.right (commA m c))
def stA (c : Dev nD) (u : ℕ) : sProp 𝕄 := if u ≤ 3 then preA c else postA m c
/-- Before and after the third hop lands. -/
def preB (c : Dev nD) : sProp 𝕄 := iprop(rcvKit c 0 2 ∗ rcvKit c 1 2)
def postB (c : Dev nD) : sProp 𝕄 :=
  iprop(atPos ER (vCell c 0 2) (0 + 1) ∅ 0 ∗ atPos ER (vCell c 1 2) (0 + 1) ∅ 0 ∗ cPts c 3 0 fullShare (commA m c) ∗ cPts c 3 1 fullShare (commA m c))
def stB (c : Dev nD) (u : ℕ) : sProp 𝕄 := if u ≤ 6 then preB c else postB m c
/-- The levels held throughout. -/
def levs (c : Dev nD) : sProp 𝕄 :=
  iprop(cPts c 0 0 fullShare.right (commA m c) ∗ cPts c 0 1 fullShare.right (commA m c)
    ∗ cPts c 1 0 fullShare.right (commA m c) ∗ cPts c 1 1 fullShare.right (commA m c))

/-- Up to unit three the third hop has not started. -/
theorem stA_le (c : Dev nD) {u : ℕ} (h : u ≤ 3) : stA m c u = preA c := if_pos h
/-- After unit three the third hop is under way. -/
theorem stA_gt (c : Dev nD) {u : ℕ} (h : ¬ u ≤ 3) : stA m c u = postA m c := if_neg h
/-- Up to unit six the third hop has not landed. -/
theorem stB_le (c : Dev nD) {u : ℕ} (h : u ≤ 6) : stB m c u = preB c := if_pos h
/-- After unit six the third hop has landed. -/
theorem stB_gt (c : Dev nD) {u : ℕ} (h : ¬ u ≤ 6) : stB m c u = postB m c := if_neg h

/-- The level of a unit, at the share the unit holds. -/
theorem lev_acc (c : Dev nD) (u : ℕ) (hu : u < 8) :
    iprop(levs m c ∗ stA m c (u + 1) ∗ stB m c (u + 1))
      ⊢ iprop(∃ q, (cPts c (u / 2) 0 q (commA m c) ∗ cPts c (u / 2) 1 q (commA m c))
          ∗ ((cPts c (u / 2) 0 q (commA m c) ∗ cPts c (u / 2) 1 q (commA m c)) -∗ levs m c ∗ stA m c (u + 1) ∗ stB m c (u + 1))) := by
  unfold levs
  rcases (by omega : u / 2 = 0 ∨ u / 2 = 1 ∨ u / 2 = 2 ∨ u / 2 = 3) with h | h | h | h
  · rw [h]
    iintro ⟨⟨H00, H01, H10, H11⟩, HA, HB⟩
    iexists fullShare.right
    isplitl [H00 H01]
    · isplitl [H00] <;> iassumption
    iintro ⟨H00, H01⟩
    isplitl [H00 H01 H10 H11]
    · isplitl [H00]; · iexact H00
      isplitl [H01]; · iexact H01
      isplitl [H10] <;> iassumption
    isplitl [HA] <;> iassumption
  · rw [h]
    iintro ⟨⟨H00, H01, H10, H11⟩, HA, HB⟩
    iexists fullShare.right
    isplitl [H10 H11]
    · isplitl [H10] <;> iassumption
    iintro ⟨H10, H11⟩
    isplitl [H00 H01 H10 H11]
    · isplitl [H00]; · iexact H00
      isplitl [H01]; · iexact H01
      isplitl [H10] <;> iassumption
    isplitl [HA] <;> iassumption
  · rw [h, stA_gt m c (by omega)]
    unfold postA
    iintro ⟨⟨H00, H01, H10, H11⟩, ⟨H1, H2, H3, H4, H20, H21⟩, HB⟩
    iexists fullShare.right
    isplitl [H20 H21]
    · isplitl [H20] <;> iassumption
    iintro ⟨H20, H21⟩
    isplitl [H00 H01 H10 H11]
    · isplitl [H00]; · iexact H00
      isplitl [H01]; · iexact H01
      isplitl [H10] <;> iassumption
    isplitl [H1 H2 H3 H4 H20 H21]
    · isplitl [H1]; · iexact H1
      isplitl [H2]; · iexact H2
      isplitl [H3]; · iexact H3
      isplitl [H4]; · iexact H4
      isplitl [H20] <;> iassumption
    iexact HB
  · rw [h, stB_gt m c (by omega)]
    unfold postB
    iintro ⟨⟨H00, H01, H10, H11⟩, HA, ⟨H1, H2, H30, H31⟩⟩
    iexists fullShare
    isplitl [H30 H31]
    · isplitl [H30] <;> iassumption
    iintro ⟨H30, H31⟩
    isplitl [H00 H01 H10 H11]
    · isplitl [H00]; · iexact H00
      isplitl [H01]; · iexact H01
      isplitl [H10] <;> iassumption
    isplitl [HA]; · iexact HA
    isplitl [H1]; · iexact H1
    isplitl [H2]; · iexact H2
    isplitl [H30] <;> iassumption

/-! ## The stages of a unit -/

/-- Unit 3: the second hop waited for, the third started. -/
theorem stageA (K : Dev nD × Fin 13 → ℕ) (c n₀ n₁ : Dev nD) (hn₀ : n₀ = tgt 0 c) (hn₁ : n₁ = tgt 1 c)
    {s' : Shape} {e' : EltTy} {sp₁ sp₂ : CoreSpace} {src₁ : Memref sig .tc sp₁ s' e'} {src₂ : Memref sig .tc sp₂ s' e'}
    {v₀ v₁ sq₀ sq₁ vq₀ vq₁ : DmaSem sig} (hv₀ : v₀ = vS 0 1) (hv₁ : v₁ = vS 1 1) (hs₀ : sq₀ = sS 0 2) (hs₁ : sq₁ = sS 1 2) (hw₀ : vq₀ = vS 0 2) (hw₁ : vq₁ = vS 1 2)
    {offa offb off₁ off₂ off₃ off₄ : Fin 3 → ℕ} {inba inbb inb₁ inb₂ inb₃ inb₄}
    (e₁ : off₁ = ![2, 0, 0]) (e₂ : off₂ = ![3, 0, 0]) (e₃ : off₃ = ![2, 512, 0]) (e₄ : off₄ = ![3, 512, 0])
    {ha₁ hb₁ ha₂ hb₂ hc₁ hd₁ he₁ hf₁ hc₂ hd₂ he₂ hf₂}
    {α : Type} {Q : α → sProp 𝕄} {kk : Prog (TpuEff nD τ sig (Elt F) Λ₀ .tc) α} :
    iprop(records m K ∗ levAts L lv ∗ preA c ∗ owing c (rem c 2))
      ⊢ iprop(((postA m c ∗ owing c (rem c 0)) -∗ wp frame (wpE (defs₀ (F := F)) 𝒱₀ (c : Thread nD τ) none) Set.univ kk Q)
          -∗ wp frame (wpE (defs₀ (F := F)) 𝒱₀ (c : Thread nD τ) none) Set.univ
              (.op (.waitDma2 v₀ src₁ (halfV offa inba) ha₁ hb₁) fun _ => .op (.waitDma2 v₁ src₂ (halfV offb inbb) ha₂ hb₂) fun _ =>
                .op (.enqueueDma (halfV off₁ inb₁) (.remote (Dev.tc n₀ : Thread nD τ) (halfV off₂ inb₂) (.dma sq₀) hc₁) (.dma vq₀) hd₁ he₁ hf₁) fun _ =>
                .op (.enqueueDma (halfV off₃ inb₃) (.remote (Dev.tc n₁ : Thread nD τ) (halfV off₄ inb₄) (.dma sq₁) hc₂) (.dma vq₁) hd₂ he₂ hf₂) fun _ => kk) Q) := by
  unfold preA postA
  iintro ⟨#HR, #Hlev, ⟨Hr0, Hr1, Ht0, Ht1, Hd0, Hd1⟩, HO⟩ Hk
  iapply (wp_land m K c 0 1 2 (by decide) hv₀ (src := src₁) (hsrc := ha₁) (hdst := hb₁)) $$ [Hr0 HO]
  · isplitr; · iexact HR
    isplitr; · iexact Hlev
    isplitl [Hr0] <;> iassumption
  iintro ⟨HO, Ha0, Hc0⟩
  iapply (wp_land m K c 1 1 2 (by decide) hv₁ (src := src₂) (hsrc := ha₂) (hdst := hb₂)) $$ [Hr1 HO]
  · isplitr; · iexact HR
    isplitr; · iexact Hlev
    isplitl [Hr1] <;> iassumption
  iintro ⟨HO, Ha1, Hc1⟩
  ihave Hc0 := (cPts_share (F := F) c ((1 : Fin 3).val + 1) (0 : Fin 2).val (commA m c)).1 $$ Hc0
  ihave Hc1 := (cPts_share (F := F) c ((1 : Fin 3).val + 1) (1 : Fin 2).val (commA m c)).1 $$ Hc1
  icases Hc0 with ⟨Hl0, Hr0⟩
  icases Hc1 with ⟨Hl1, Hr1⟩
  iapply (wp_hop m K c n₀ 1 0 2 hn₀ rfl rfl e₁ e₂ hs₀ hw₀ (hsc := hc₁) (hsrc := hd₁) (hdst := he₁) (hsem := hf₁)) $$ [Hl0 Hd0 HO Ht0]
  · isplitr; · iexact HR
    isplitl [Hl0]; · iexact Hl0
    isplitl [Hd0]; · iexact Hd0
    isplitl [HO] <;> iassumption
  iintro ⟨Hk0, HO⟩
  iapply (wp_hop m K c n₁ 0 1 2 hn₁ rfl rfl e₃ e₄ hs₁ hw₁ (hsc := hc₂) (hsrc := hd₂) (hdst := he₂) (hsem := hf₂)) $$ [Hl1 Hd1 HO Ht1]
  · isplitr; · iexact HR
    isplitl [Hl1]; · iexact Hl1
    isplitl [Hd1]; · iexact Hd1
    isplitl [HO] <;> iassumption
  iintro ⟨Hk1, HO⟩
  iapply Hk
  isplitr [HO]
  · isplitl [Ha0]; · iexact Ha0
    isplitl [Ha1]; · iexact Ha1
    isplitl [Hk0]; · iexact Hk0
    isplitl [Hk1]; · iexact Hk1
    isplitl [Hr0]; · iexact Hr0
    iexact Hr1
  iexact HO

/-- Unit 6: the third hop waited for. -/
theorem stageB (K : Dev nD × Fin 13 → ℕ) (c : Dev nD)
    {s' : Shape} {e' : EltTy} {sp₁ sp₂ : CoreSpace} {src₁ : Memref sig .tc sp₁ s' e'} {src₂ : Memref sig .tc sp₂ s' e'}
    {v₀ v₁ : DmaSem sig} (hv₀ : v₀ = vS 0 2) (hv₁ : v₁ = vS 1 2)
    {offa offb : Fin 3 → ℕ} {inba inbb} {ha₁ hb₁ ha₂ hb₂}
    {α : Type} {Q : α → sProp 𝕄} {kk : Prog (TpuEff nD τ sig (Elt F) Λ₀ .tc) α} :
    iprop(records m K ∗ levAts L lv ∗ preB c ∗ owing c (rem c 0))
      ⊢ iprop(((postB m c ∗ owing c (rem c 0)) -∗ wp frame (wpE (defs₀ (F := F)) 𝒱₀ (c : Thread nD τ) none) Set.univ kk Q)
          -∗ wp frame (wpE (defs₀ (F := F)) 𝒱₀ (c : Thread nD τ) none) Set.univ
              (.op (.waitDma2 v₀ src₁ (halfV offa inba) ha₁ hb₁) fun _ => .op (.waitDma2 v₁ src₂ (halfV offb inbb) ha₂ hb₂) fun _ => kk) Q) := by
  unfold preB postB
  iintro ⟨#HR, #Hlev, ⟨Hr0, Hr1⟩, HO⟩ Hk
  iapply (wp_land m K c 0 2 0 (by decide) hv₀ (src := src₁) (hsrc := ha₁) (hdst := hb₁)) $$ [Hr0 HO]
  · isplitr; · iexact HR
    isplitr; · iexact Hlev
    isplitl [Hr0] <;> iassumption
  iintro ⟨HO, Ha0, Hc0⟩
  iapply (wp_land m K c 1 2 0 (by decide) hv₁ (src := src₂) (hsrc := ha₂) (hdst := hb₂)) $$ [Hr1 HO]
  · isplitr; · iexact HR
    isplitr; · iexact Hlev
    isplitl [Hr1] <;> iassumption
  iintro ⟨HO, Ha1, Hc1⟩
  iapply Hk
  isplitr [HO]
  · isplitl [Ha0]; · iexact Ha0
    isplitl [Ha1]; · iexact Ha1
    isplitl [Hc0]; · iexact Hc0
    iexact Hc1
  iexact HO

/-- From unit 2 on: the two lanes waited for. -/
theorem stageC (c : Dev nD) (nh : Fin 2) (t k : ℕ)
    {s' : Shape} {e' : EltTy} {sp₁ sp₂ : Space} {src₁ : Memref sig .tc sp₁ s' e'} {src₂ : Memref sig .tc sp₂ s' e'}
    {v₀ v₁ : DmaSem sig} (hv₀ : v₀ = uS 0 nh) (hv₁ : v₁ = uS 1 nh)
    {offa offb : Fin 2 → ℕ} {inba inbb} {ha₁ hb₁ ha₂ hb₂}
    {α : Type} {Q : α → sProp 𝕄} {kk : Prog (TpuEff nD τ sig (Elt F) Λ₀ .tc) α} :
    iprop(levAts L lv ∗ uBusy m c 0 nh t ∗ uBusy m c 1 nh t ∗ owing c (rem c k))
      ⊢ iprop(((uIdle m c 0 nh t ∗ uIdle m c 1 nh t ∗ owing c (rem c k)) -∗ wp frame (wpE (defs₀ (F := F)) 𝒱₀ (c : Thread nD τ) none) Set.univ kk Q)
          -∗ wp frame (wpE (defs₀ (F := F)) 𝒱₀ (c : Thread nD τ) none) Set.univ
              (.op (.waitDma2 v₀ src₁ (outV offa inba) ha₁ hb₁) fun _ => .op (.waitDma2 v₁ src₂ (outV offb inbb) ha₂ hb₂) fun _ => kk) Q) := by
  iintro ⟨#Hlev, H0, H1, HO⟩ Hk
  iapply (wp_outed m c 0 nh t k hv₀ (src := src₁) (hsrc := ha₁) (hdst := hb₁)) $$ [H0 HO]
  · isplitr; · iexact Hlev
    isplitl [H0] <;> iassumption
  iintro ⟨H0, HO⟩
  iapply (wp_outed m c 1 nh t k hv₁ (src := src₂) (hsrc := ha₂) (hdst := hb₂)) $$ [H1 HO]
  · isplitr; · iexact Hlev
    isplitl [H1] <;> iassumption
  iintro ⟨H1, HO⟩
  iapply Hk
  isplitl [H0]; · iexact H0
  isplitl [H1] <;> iassumption

/-- The product of a unit, into its column half of the accumulator. -/
theorem stageD (c : Dev nD) (t : Fin 4) (nh : Fin 2) (q : PosShare TreeShare) {off₁ off₂ off₃ inb₁ inb₂ inb₃}
    (e₁ : off₁ = ![t.val, 0, 0]) (e₂ : off₂ = ![0, 1024 * nh.val]) (e₃ : off₃ = ![0, 1024 * nh.val]) {hl₁ hl₂ hl₃ hx hm}
    {α : Type} {Q : α → sProp 𝕄} {kk : Prog (TpuEff nD τ sig (Elt F) Λ₀ .tc) α} :
    iprop((cPts c t.val 0 q (commA m c) ∗ cPts c t.val 1 q (commA m c)) ∗ (((c : Thread nD τ).loc cc0_scratch2) ↦{fullShare} w8A m c)
        ∗ uIdle m c 0 nh t.val ∗ uIdle m c 1 nh t.val)
      ⊢ iprop((((cPts c t.val 0 q (commA m c) ∗ cPts c t.val 1 q (commA m c)) ∗ (((c : Thread nD τ).loc cc0_scratch2) ↦{fullShare} w8A m c)
            ∗ uFull m c 0 nh t ∗ uFull m c 1 nh t) -∗ wp frame (wpE (defs₀ (F := F)) 𝒱₀ (c : Thread nD τ) none) Set.univ kk Q)
          -∗ wp frame (wpE (defs₀ (F := F)) 𝒱₀ (c : Thread nD τ) none) Set.univ
              (.op (.load cM (Rect.unit (s := S4x1024x4096) off₁ S1x1024x4096.size inb₁).toLoadRect hl₁) fun v149 =>
                .op (.load eM (Rect.unit (s := S4096x2048) off₂ S4096x1024.size inb₂).toLoadRect hl₂) fun v152 =>
                .op (.load aM (Rect.unit (s := S1024x2048) off₃ S1024x1024.size inb₃).toLoadRect hl₃) fun _ =>
                .op (.store aM (Rect.unit (s := S1024x2048) off₃ S1024x1024.size inb₃) (k0_pay1 (scA m c) v149 v152) Finset.univ hx hm) fun _ => kk) Q) := by
  unfold uIdle uFull
  iintro ⟨HL, H8, ⟨Hv0, Hl0, Hq0⟩, ⟨Hv1, Hl1, Hq1⟩⟩ Hk
  iapply (wp_level m c t q e₁) $$ HL
  iintro HL
  iapply (wp_load 𝒱₀ (c : Thread nD τ) none Set.univ (m := eM) (S := Finset.univ) (f := w8A m c) (q := fullShare) (Finset.subset_univ _)) $$ H8
  iintro H8
  rw [load_col m c nh e₂]
  iapply (wp_half m c t nh e₃ rfl) $$ [Hq0 Hq1]
  · isplitl [Hq0]; · iexact Hq0
    iexact Hq1
  iintro ⟨Hq0, Hq1⟩
  iapply Hk
  isplitl [HL]; · iexact HL
  isplitl [H8]; · iexact H8
  isplitl [Hv0 Hl0 Hq0]
  · isplitl [Hv0]; · iexact Hv0
    isplitl [Hl0]; · iexact Hl0
    iexact Hq0
  · isplitl [Hv1]; · iexact Hv1
    isplitl [Hl1]; · iexact Hl1
    iexact Hq1

end Cert.RingMM

end
-- ==== Proof.Stage.lean ====
/-
# The weight's staging loop

The weight comes in by column tiles, each copied into a slot of the staging buffer while the previous is narrowed.
The weight is read by the two slots' copies at once, each holding one half of its share.
-/
module

public import proofs.«01_k».proof.Proof.Hops

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots and tiles -/

/-- The slot of tile `t`, and the share of the weight its copies read. -/
def par (t : ℕ) : Fin 2 := ⟨t % 2, Nat.mod_lt _ (by decide)⟩
/-- Slots repeat after two tiles. -/
theorem par_two (t : ℕ) : par (t + 1 + 1) = par t := Fin.ext (by show (t + 1 + 1) % 2 = t % 2; omega)
def shr (s : Fin 2) : PosShare TreeShare := if s = 0 then fullShare.left else fullShare.right

/-- The staging semaphores lie in their array. -/
theorem w_sem_inb : ∀ s : Fin 2, ∀ a, (![s.val] : Fin 1 → ℕ) a + S1.size a ≤ S2.size a := by decide
/-- The semaphore the program names for a slot is that slot's. -/
theorem w_sem_at : ∀ s : Fin 2, ((cc0_scratch6.slice (Rect.unit (s := S2) ![s.val] S1.size (w_sem_inb s))).squeeze S_ squeezes_S1_S_).sem = gS s := by decide +kernel
/-- The semaphore of a slot. -/
theorem w_sem_eq (s : Fin 2) (off) (inb) (e : off = ![s.val]) :
    ((cc0_scratch6.slice (Rect.unit (s := S2) off S1.size inb)).squeeze S_ squeezes_S1_S_).sem = gS s := by
  subst e; exact w_sem_at s

/-- A staging semaphore is at the lowest level. -/
theorem lvs_g (s : Fin 2) : lvs (.dma (gS s)) = 0 := by revert s; decide

/-- The credit of a tile. -/
abbrev Ng : ℕ := (slotV ![0, 0, 0] (by decide)).view.dmaCredit
/-- A tile's copy credits something. -/
theorem Ng_pos : 0 < Ng := View.dmaCredit_pos _ (by decide)
/-- Every tile's copy credits the same. -/
theorem slot_credit (off) (inb) : (slotV off inb).view.dmaCredit = Ng := rfl

/-- The elements of tile `t` in the weight. -/
def tSet (t : ℕ) : Finset S4096x2048.Idx := Finset.univ.filter fun i => (i 1).val / 256 = t
/-- Membership in a tile's columns, by coordinates. -/
theorem mem_tSet {t : ℕ} {i : S4096x2048.Idx} : i ∈ tSet t ↔ (i 1).val / 256 = t := by simp [tSet]
/-- A tile of the weight is that region. -/
theorem tileV_set (t : ℕ) (off) (inb) (e : off = ![0, 256 * t]) : ((tileV off inb).view.set : Finset S4096x2048.Idx) = tSet t := by
  subst e
  show ((View.whole main_arg1).slice _).set = _
  rw [View.set_slice_whole]
  ext i
  rw [Rect.mem_set_unit, mem_tSet]
  have h0 : (i 0).val < 4096 := (i 0).isLt
  constructor
  · intro H
    have h1 := H 1
    simp at h1
    omega
  · intro h1 a
    match a with
    | 0 => show 0 ≤ (i 0).val ∧ (i 0).val < 0 + 4096; omega
    | 1 => show 256 * t ≤ (i 1).val ∧ (i 1).val < 256 * t + 256; omega

/-- The staging buffer with tile `t` in its slots. -/
def gA (c : Dev nD) (t : ℕ) : S2x4096x256.Idx → Elt F .f32 := fun i => wA m c (ix2 (i 1) ⟨(256 * t + (i 2).val) % 2048, Nat.mod_lt _ (by decide)⟩)

/-! ## What the loop holds -/

/-- Device `c`'s slot `s` of the staging buffer, and a part of its weight. -/
def gPts (c : Dev nD) (s : ℕ) (f : S2x4096x256.Idx → Elt F .f32) : sProp 𝕄 := ((c : Thread nD τ).loc cc0_scratch3) ↦[gSet s]{fullShare} f
def wPts (c : Dev nD) (S : Finset S4096x2048.Idx) (q : PosShare TreeShare) : sProp 𝕄 := ((c : Thread nD τ).loc main_arg1) ↦[S]{q} wA m c

/-- Slot `s` while tile `t` comes in, when it is idle, and once the tile is in. -/
def wBusy (c : Dev nD) (s : Fin 2) (t : ℕ) : sProp 𝕄 :=
  iprop(Transfers.Flight EC (c : Thread nD τ) (.dma (gS s)) () Ng iprop(gPts c s.val (gA m c t) ∗ wPts m c (tSet t) (shr s)) ∗ wPts m c (Finset.univ \ tSet t) (shr s))
def wIdle (c : Dev nD) (s : Fin 2) : sProp 𝕄 :=
  iprop(semVal ((c : Thread nD τ), SemLoc.dma (gS s)) 0 ∗ (∃ f, gPts c s.val f) ∗ wPts m c Finset.univ (shr s))
def wFull (c : Dev nD) (s : Fin 2) (t : ℕ) : sProp 𝕄 :=
  iprop(semVal ((c : Thread nD τ), SemLoc.dma (gS s)) 0 ∗ gPts c s.val (gA m c t) ∗ wPts m c Finset.univ (shr s))

omit [FloatOps F] in
/-- A filled slot is in particular an idle one. -/
theorem wFull_idle (c : Dev nD) (s : Fin 2) (t : ℕ) : wFull m c s t ⊢ wIdle m c s := by
  unfold wFull wIdle
  iintro ⟨H1, H2, H3⟩
  isplitl [H1]; · iexact H1
  isplitl [H2]; · iexists _; iexact H2
  iexact H3

omit [FloatOps F] in
/-- A share of the weight, split into a tile's columns and the others. -/
theorem wPts_split (c : Dev nD) (t : ℕ) (q) : wPts m c Finset.univ q ⊣⊢ wPts m c (tSet t) q ∗ wPts m c (Finset.univ \ tSet t) q := by
  unfold wPts; exact pointsTo_split_subset (Finset.subset_univ _)

omit [FloatOps F] in
/-- What a tile's copy leaves in its slot. -/
theorem write_tile (c : Dev nD) (t : ℕ) (ht : t < 8) (s : ℕ) {off₁ off₂ inb₁ inb₂} (e₁ : off₁ = ![0, 256 * t]) (e₂ : off₂ = ![s, 0, 0])
    (fd : S2x4096x256.Idx → Elt F .f32) (i : S2x4096x256.Idx) (hi : i ∈ gSet s) :
    (slotV off₂ inb₂).view.write (Elt F) fd ((tileV off₁ inb₁).view.read (Elt F) (wA m c)) Finset.univ i = gA m c t i := by
  have hi' : i ∈ ((slotV off₂ inb₂).view.set : Finset S2x4096x256.Idx) := by rw [slotV_set s off₂ inb₂ e₂]; exact hi
  obtain ⟨x, -, rfl⟩ := Finset.mem_map.mp hi'
  refine ((slotV off₂ inb₂).view.write_emb_of_mem fd _ (Finset.mem_univ x)).trans ?_
  show wA m c ((tileV off₁ inb₁).view.emb x) = gA m c t ((slotV off₂ inb₂).view.emb x)
  subst e₁ e₂
  have x1 : (x 1).val < 256 := (x 1).isLt
  have a0 : ((tileV _ inb₁).view.emb x 0).val = (x 0).val := (tileV_emb _ inb₁ x 0).trans (Nat.zero_add _)
  have a1 : ((tileV _ inb₁).view.emb x 1).val = 256 * t + (x 1).val := tileV_emb _ inb₁ x 1
  have b1 : ((slotV _ inb₂).view.emb x 1).val = (x 0).val := (slotV_emb _ inb₂ x 1).trans (Nat.zero_add _)
  have b2 : ((slotV _ inb₂).view.emb x 2).val = (x 1).val := (slotV_emb _ inb₂ x 2).trans (Nat.zero_add _)
  unfold gA
  refine congrArg (wA m c) (funext fun a => Fin.ext ?_)
  match a with
  | 0 => exact a0.trans b1.symm
  | 1 => exact a1.trans (by show _ = (256 * t + ((slotV _ inb₂).view.emb x 2).val) % 2048; rw [b2]; omega)

/-- A tile's copy starts. -/
theorem wp_stage (c : Dev nD) (s : Fin 2) (t : ℕ) (ht : t < 8) {off₁ off₂ inb₁ inb₂} (e₁ : off₁ = ![0, 256 * t]) (e₂ : off₂ = ![s.val, 0, 0])
    {q : DmaSem sig} (hq : q = gS s) {hsrc hdst hsem}
    {α : Type} {Q : α → sProp 𝕄} {kk : PUnit → Prog (TpuEff nD τ sig (Elt F) Λ₀ .tc) α} :
    wIdle m c s
      ⊢ iprop((wBusy m c s t -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (tileV off₁ inb₁) (.here (slotV off₂ inb₂)) (.dma q) hsrc hdst hsem) kk) Q) := by
  subst hq
  unfold wIdle wBusy
  iintro ⟨Hv, ⟨%fd, Hg⟩, Hw⟩ Hk
  ihave Hw := (wPts_split m c t (shr s)).1 $$ Hw
  icases Hw with ⟨Hw, Hr⟩
  have hw : wPts m c (tSet t) (shr s) = ((tileV off₁ inb₁).view.loc (c : Thread nD τ) ↦[(tileV off₁ inb₁).view.set]{shr s} (wA m c) : sProp 𝕄) := by
    unfold wPts; rw [← tileV_set t off₁ inb₁ e₁]
  have hg (f : S2x4096x256.Idx → Elt F .f32) : (gPts c s.val f : sProp 𝕄) = ((slotV off₂ inb₂).view.loc (c : Thread nD τ) ↦[(slotV off₂ inb₂).view.set]{fullShare} f) := by
    unfold gPts; rw [← slotV_set s.val off₂ inb₂ e₂]
  have H := Transfers.wp_dmaLocal EC (defs := defs₀ (F := F)) 𝒱₀ (c : Thread nD τ) none (src := tileV off₁ inb₁) (via := .same) (dst := slotV off₂ inb₂) (sm := .dma (gS s))
    (hsrc := hsrc) (hdst := hdst) (hsem := hsem) (k := kk) (Q := Q) (q := shr s) (fs := wA m c) (Sd := (slotV off₂ inb₂).view.set) (fd := fd) () Ng
    (slot_credit off₂ inb₂) Ng_pos (Finset.Subset.refl _)
  iapply H $$ [Hv Hg Hw]
  · isplitl [Hw]; · iapply (Entails.of_eq hw); iexact Hw
    isplitl [Hg]; · iapply (Entails.of_eq (hg fd)); iexact Hg
    iexact Hv
  iintro HF
  iapply Hk
  isplitl [HF]
  · have hD : iprop(((slotV off₂ inb₂).view.loc (c : Thread nD τ) ↦[(slotV off₂ inb₂).view.set]{fullShare}
          ((slotV off₂ inb₂).view.write (Elt F) fd ((ReadAs.same (Val := Elt F)).apply ((tileV off₁ inb₁).view.read (Elt F) (wA m c))) Finset.univ))
        ∗ ((tileV off₁ inb₁).view.loc (c : Thread nD τ) ↦[(tileV off₁ inb₁).view.set]{shr s} (wA m c)))
        ⊢ (iprop(gPts c s.val (gA m c t) ∗ wPts m c (tSet t) (shr s)) : sProp 𝕄) := by
      refine sep_mono (Entails.of_eq ?_) (Entails.of_eq hw.symm)
      rw [← hg]
      unfold gPts
      exact pointsTo_congr fun i hi => write_tile m c t ht s.val e₁ e₂ fd i hi
    iapply (Transfers.Flight_mono EC (c : Thread nD τ) hD); iexact HF
  iexact Hr

/-- A tile's copy is waited for. -/
theorem wp_staged (c : Dev nD) (s : Fin 2) (t k : ℕ) {q : DmaSem sig} (hq : q = gS s)
    {s' : Shape} {e' : EltTy} {sp' : Space} {off : Fin 3 → ℕ} {inb} {src : Memref sig .tc sp' s' e'} {hsrc : src.view.WordExact} {hdst : (slotV off inb).view.WordExact}
    {α : Type} {Q : α → sProp 𝕄} {kk : PUnit → Prog (TpuEff nD τ sig (Elt F) Λ₀ .tc) α} :
    iprop(levAts L lv ∗ wBusy m c s t ∗ owing c (rem c k))
      ⊢ iprop(((wFull m c s t ∗ owing c (rem c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src (slotV off inb) hsrc hdst) kk) Q) := by
  subst hq
  unfold owing wBusy wFull
  iintro ⟨Hlev, ⟨HF, Hr⟩, ⟨%W, HO⟩⟩ Hk
  iapply (Transfers.wp_waitLocalO EC 𝒱₀ (c : Thread nD τ) none (defs := defs₀ (F := F)) () (slot_credit off inb) (O := rem c k) (W := W)) $$ [HF HO Hlev]
  · isplitl [HF]; · iexact HF
    isplitl [HO]; · iexact HO
    iapply (mayWait_rem c (.dma (gS s)) k 0 (Nat.le_of_eq (lvs_g s)) (fun j _ => by omega)); iexact Hlev
  iintro ⟨⟨Hg, Hw⟩, Hv, HO⟩
  iapply Hk
  isplitl [Hv Hg Hw Hr]
  · isplitl [Hv]; · iexact Hv
    isplitl [Hg]; · iexact Hg
    iapply (wPts_split m c t (shr s)).2
    isplitl [Hw] <;> iassumption
  iexists _; iexact HO

/-! ## One trip -/

/-- The narrowed weight, its first `t` tiles in. -/
def w8st (c : Dev nD) (t : ℕ) : sProp 𝕄 :=
  iprop(∃ f : S4096x2048.Idx → Elt F .fp8e4m3, ⌜∀ i, (i 1).val < 256 * t → f i = w8A m c i⌝ ∗ ((c : Thread nD τ).loc cc0_scratch2) ↦{fullShare} f)

/-- What the staging loop holds before trip `t`. -/
def stInv (c : Dev nD) (t : ℕ) : sProp 𝕄 :=
  iprop((if t < 8 then wBusy m c (par t) t else wIdle m c (par t)) ∗ wIdle m c (par (t + 1)) ∗ w8st m c t ∗ owing c (rem c 4))

/-- What a trip loads lies in the slot. -/
theorem slot_access (s : ℕ) (off) (inb) (e : off = ![s, 0, 0]) :
    ((gM.access (Rect.unit (s := S2x4096x256) off S1x4096x256.size inb)).set : Finset S2x4096x256.Idx) ⊆ gSet s := by
  subst e
  show ((View.whole cc0_scratch3).slice _).set ⊆ _
  rw [View.set_slice_whole]
  intro i
  rw [Rect.mem_set_unit, mem_gSet]
  intro H
  have h0 := H 0
  simp at h0
  omega

omit [FloatOps F] in
/-- What a trip loads: the tile. -/
theorem load_tile (c : Dev nD) (t : Fin 8) {off inb} (e : off = ![t.val % 2, 0, 0]) :
    gM.view.readAt (Elt F) (Rect.unit (s := S2x4096x256) off S1x4096x256.size inb).toLoadRect (gA m c t.val) = tileA m c t := by
  subst e
  funext y
  show gA m c t.val _ = _
  unfold gA tileA
  have y2 : (y 2).val < 256 := (y 2).isLt
  have b1 : (((Rect.unit (s := S2x4096x256) ![t.val % 2, 0, 0] S1x4096x256.size inb).toLoadRect.idx y) 1).val = (y 1).val := by
    show 0 + 1 * (y 1).val = _; omega
  have b2 : (((Rect.unit (s := S2x4096x256) ![t.val % 2, 0, 0] S1x4096x256.size inb).toLoadRect.idx y) 2).val = (y 2).val := by
    show 0 + 1 * (y 2).val = _; omega
  refine congrArg (wA m c) (funext fun a => Fin.ext ?_)
  match a with
  | 0 => exact b1
  | 1 => show (256 * t.val + _) % 2048 = 256 * t.val + (y 2).val
         exact (congrArg (fun n => (256 * t.val + n) % 2048) b2).trans (by have := t.isLt; dsimp only; omega)

/-- What a trip stores: one tile more of the narrowed weight. -/
theorem store_tile (c : Dev nD) (t : Fin 8) {off inb} (e : off = ![0, 256 * t.val]) (f : S4096x2048.Idx → Elt F .fp8e4m3)
    (hf : ∀ i, (i 1).val < 256 * t.val → f i = w8A m c i) (i : S4096x2048.Idx) (hi : (i 1).val < 256 * (t.val + 1)) :
    (eM.access (Rect.unit (s := S4096x2048) off S4096x256.size inb)).write (Elt F) f (k0_pay4 (tileA m c t)) Finset.univ i = w8A m c i := by
  subst e
  by_cases h : 256 * t.val ≤ (i 1).val
  · have hb : (i 1).val - 256 * t.val < 256 := by omega
    have hx : i = (eM.access (Rect.unit (s := S4096x2048) ![0, 256 * t.val] S4096x256.size inb)).emb (ix2 (i 0) ⟨(i 1).val - 256 * t.val, hb⟩) := by
      funext a
      refine Fin.ext ?_
      match a with
      | 0 => show (i 0).val = 0 + 1 * (i 0).val; omega
      | 1 => show (i 1).val = 256 * t.val + 1 * ((i 1).val - 256 * t.val); omega
    conv_lhs => rw [hx]
    refine ((eM.access (Rect.unit (s := S4096x2048) ![0, 256 * t.val] S4096x256.size inb)).write_emb_of_mem f _ (Finset.mem_univ _)).trans ?_
    show k0_pay4 (tileA m c t) _ = _
    unfold w8A
    have e1 : (⟨(i 1).val / 256, by have := (i 1).isLt; simp at this; omega⟩ : Fin 8) = t := Fin.ext (by show (i 1).val / 256 = t.val; omega)
    have e2 : (⟨(i 1).val % 256, Nat.mod_lt _ (by decide)⟩ : Fin 256) = ⟨(i 1).val - 256 * t.val, hb⟩ := Fin.ext (by show (i 1).val % 256 = (i 1).val - 256 * t.val; omega)
    rw [e1, e2]
  · rw [View.write_of_not_mem]
    · exact hf i (by omega)
    · intro hm
      have hm' : i ∈ (eM.access (Rect.unit (s := S4096x2048) ![0, 256 * t.val] S4096x256.size inb)).set := hm
      have h3 : i ∈ (Rect.unit (s := S4096x2048) ![0, 256 * t.val] S4096x256.size inb).set := by
        rw [← View.set_slice_whole cc0_scratch2]; exact hm'
      have := (Rect.mem_set_unit.mp h3) 1
      exact h this.1

/-- The staging loop makes eight trips. -/
theorem trips1 : k0_t1_loop.trips = 8 := by decide +kernel
/-- A trip starts the next tile's copy unless it is the last. -/
theorem cond1_iff : ∀ t : Fin k0_t1_loop.trips, k0_cond1 t = 1#1 ↔ t.val + 1 < 8 := by decide +kernel

/-- The loop's region at the kernel's buffers. -/
abbrev trip1 (c : Dev nD) (v4 v6 : BitVec 32) : Fin k0_t1_loop.trips → Unit → Prog (TpuEff nD τ sig (Elt F) Λ₀ .tc) Unit :=
  k0_t1_body (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v4 v6

/-- The later part of a trip: the tile waited for, narrowed, stored. -/
theorem trip1_rest (c : Dev nD) (v4 v6 : BitVec 32) (t : Fin k0_t1_loop.trips) {Q : Unit → sProp 𝕄}
    {q : DmaSem sig} (hq : q = gS (par t.val)) {src : Memref sig .tc .hbm S4096x256 .f32} {hsrc : src.view.WordExact} {hdst : (slotV (k0_off7 t) (k0_off7_inb t)).view.WordExact}
    {hl₁ hl₂ hx hm} :
    iprop(levAts L lv ∗ wBusy m c (par t.val) t.val ∗ w8st m c t.val ∗ owing c (rem c 4))
      ⊢ iprop(((wIdle m c (par t.val) ∗ w8st m c (t.val + 1) ∗ owing c (rem c 4)) -∗ Q ⟨⟩)
          -∗ wp frame (wpE (defs₀ (F := F)) 𝒱₀ (c : Thread nD τ) none) Set.univ
            (Prog.op (.waitDma2 q src (slotV (k0_off7 t) (k0_off7_inb t)) hsrc hdst) fun _ =>
              Prog.op (.load gM (Rect.unit (s := S2x4096x256) (k0_off9 t) S1x4096x256.size (k0_off9_inb t)).toLoadRect hl₁) fun v149 =>
              Prog.op (.load eM (Rect.unit (s := S4096x2048) (k0_off10 t) S4096x256.size (k0_off10_inb t)).toLoadRect hl₂) fun _ =>
              Prog.op (.store eM (Rect.unit (s := S4096x2048) (k0_off10 t) S4096x256.size (k0_off10_inb t)) (k0_pay4 v149) Finset.univ hx hm) fun _ => Prog.ret ()) Q) := by
  have ht : t.val < 8 := trips1 ▸ t.isLt
  iintro ⟨Hlev, Hb, H8, HO⟩ Hk
  iapply (wp_staged m c (par t.val) t.val 4 hq (src := src) (hsrc := hsrc) (hdst := hdst)) $$ [Hlev Hb HO]
  · isplitl [Hlev]; · iexact Hlev
    isplitl [Hb] <;> iassumption
  unfold wFull gPts
  iintro ⟨⟨Hv, Hg, Hw⟩, HO⟩
  iapply (wp_load 𝒱₀ (c : Thread nD τ) none Set.univ (m := gM) (S := gSet (par t.val).val) (f := gA m c t.val) (q := fullShare) ?hS) $$ Hg
  case hS =>
    exact Memref.setOn_subset_of_access_subset (c : Thread nD τ) (slot_access (par t.val).val (k0_off9 t) (k0_off9_inb t) (k0_off9_eq t))
  iintro Hg
  rw [load_tile m c ⟨t.val, ht⟩ (k0_off9_eq t)]
  unfold w8st
  icases H8 with ⟨%f, %hf, He⟩
  iapply (wp_load 𝒱₀ (c : Thread nD τ) none Set.univ (m := eM) (S := Finset.univ) (f := f) (q := fullShare) (Finset.subset_univ _)) $$ He
  iintro He
  iapply (wp_store 𝒱₀ (c : Thread nD τ) none Set.univ (m := eM) (r := Rect.unit (s := S4096x2048) (k0_off10 t) S4096x256.size (k0_off10_inb t)) (Mk := Finset.univ) (S := Finset.univ) (f := f) (Finset.subset_univ _)) $$ He
  iintro He
  rw [wp_ret]; imodintro
  iapply Hk
  isplitl [Hv Hg Hw]
  · unfold wIdle
    isplitl [Hv]; · iexact Hv
    isplitl [Hg]; · iexists _; unfold gPts; iexact Hg
    iexact Hw
  isplitl [He]
  · iexists ((eM.access (Rect.unit (s := S4096x2048) (k0_off10 t) S4096x256.size (k0_off10_inb t))).write (Elt F) f (k0_pay4 (tileA m c ⟨t.val, ht⟩)) Finset.univ)
    isplitr
    · ipureintro; exact store_tile m c ⟨t.val, ht⟩ (k0_off10_eq t) f hf
    iexact He
  iexact HO

/-- ONE TRIP of the staging loop. -/
theorem trip1_step (c : Dev nD) (v4 v6 : BitVec 32) (t : Fin k0_t1_loop.trips) :
    iprop(levAts L lv ∗ stInv m c t.val)
      ⊢ wp frame (wpE (defs₀ (F := F)) 𝒱₀ (c : Thread nD τ) none) Set.univ (trip1 (F := F) c v4 v6 t ()) fun _ => iprop(levAts L lv ∗ stInv m c (t.val + 1)) := by
  have ht : t.val < 8 := trips1 ▸ t.isLt
  unfold trip1 k0_t1_body stInv
  rw [if_pos ht]
  iintro ⟨#Hlev, Hb, Hi, H8, HO⟩
  by_cases h1 : k0_cond1 t = 1#1
  · have h8 := (cond1_iff t).mp h1
    rw [dif_pos h1, if_pos h8]
    simp only [Prog.lift, Prog.bind_op, Prog.bind_ret, Prog.pure_eq_ret, Prog.bind_assoc]
    iapply (wp_stage m c (par (t.val + 1)) (t.val + 1) h8 ((k0_off5_eq t).trans (by rw [Nat.mul_add])) (k0_off4_eq t)
      (w_sem_eq (par (t.val + 1)) _ _ (k0_off3_eq t))) $$ Hi
    iintro Hn
    iapply (trip1_rest m c v4 v6 t (w_sem_eq (par t.val) _ _ (k0_off6_eq t))) $$ [Hb H8 HO]
    · isplitr; · iexact Hlev
      isplitl [Hb]; · iexact Hb
      isplitl [H8] <;> iassumption
    iintro ⟨Hi, H8, HO⟩
    isplitr; · iexact Hlev
    isplitl [Hn]; · iexact Hn
    isplitl [Hi]; · rw [par_two]; iexact Hi
    isplitl [H8] <;> iassumption
  · have h8 : ¬ t.val + 1 < 8 := fun h => h1 ((cond1_iff t).mpr h)
    rw [dif_neg h1, if_neg h8]
    simp only [Prog.lift, Prog.bind_op, Prog.bind_ret, Prog.pure_eq_ret, Prog.bind_assoc]
    iapply (trip1_rest m c v4 v6 t (w_sem_eq (par t.val) _ _ (k0_off6_eq t))) $$ [Hb H8 HO]
    · isplitr; · iexact Hlev
      isplitl [Hb]; · iexact Hb
      isplitl [H8] <;> iassumption
    iintro ⟨Hi', H8, HO⟩
    isplitr; · iexact Hlev
    isplitl [Hi]; · iexact Hi
    isplitl [Hi']; · rw [par_two]; iexact Hi'
    isplitl [H8] <;> iassumption

/-- THE STAGING LOOP: the whole weight narrowed, both slots idle. -/
theorem loop1 (c : Dev nD) (v4 v6 : BitVec 32) {α : Type} {Q : α → sProp 𝕄} {kk : Unit → Prog (TpuEff nD τ sig (Elt F) Λ₀ .tc) α} :
    iprop(levAts L lv ∗ wBusy m c 0 0 ∗ wIdle m c 1 ∗ (∃ f : S4096x2048.Idx → Elt F .fp8e4m3, ((c : Thread nD τ).loc cc0_scratch2) ↦{fullShare} f) ∗ owing c (rem c 4))
      ⊢ iprop(((wIdle m c 0 ∗ wIdle m c 1 ∗ (((c : Thread nD τ).loc cc0_scratch2) ↦{fullShare} w8A m c) ∗ owing c (rem c 4))
            -∗ wp frame (wpE (defs₀ (F := F)) 𝒱₀ (c : Thread nD τ) none) Set.univ (kk ()) Q)
          -∗ wp frame (wpE (defs₀ (F := F)) 𝒱₀ (c : Thread nD τ) none) Set.univ (Scf.Loop.for k0_t1_loop k0_t1_ok () (trip1 (F := F) c v4 v6) >>= kk) Q) := by
  iintro ⟨#Hlev, Hb, Hi, ⟨%f, He⟩, HO⟩ Hk
  iapply (Scf.wp_for_bind frame (wpE (defs₀ (F := F)) 𝒱₀ (c : Thread nD τ) none) Set.univ k0_t1_loop.lb k0_t1_loop.ub k0_t1_loop.st k0_t1_ok () (trip1 (F := F) c v4 v6)
    (fun t _ => iprop(levAts L lv ∗ stInv m c t)) (fun t _ => trip1_step m c v4 v6 t)) $$ [Hb Hi He HO]
  · isplitr; · iexact Hlev
    unfold stInv w8st
    rw [if_pos (by decide)]
    isplitl [Hb]; · iexact Hb
    isplitl [Hi]; · iexact Hi
    isplitl [He]
    · iexists f
      isplitr; · ipureintro; intro i hi; omega
      iexact He
    iexact HO
  iintro %a H
  rw [show Scf.trips k0_t1_loop.lb k0_t1_loop.ub k0_t1_loop.st = 8 from trips1]
  unfold stInv w8st
  rw [if_neg (by decide)]
  icases H with ⟨-, H0, H1, ⟨%g, %hg, He⟩, HO⟩
  have e : g = w8A m c := funext fun i => hg i (by have := (i 1).isLt; simp at this; omega)
  subst e
  iapply Hk
  isplitl [H0]; · iexact H0
  isplitl [H1]; · iexact H1
  isplitl [He] <;> iassumption

end Cert.RingMM

end
-- ==== Proof.UnitLoop.lean ====
/-
# A unit, and the loop over the units
-/
module

public import proofs.«01_k».proof.Proof.Units
public import proofs.«01_k».proof.Proof.Stage

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The four lanes before unit `u`. -/
def lanes (c : Dev nD) (u : ℕ) : sProp 𝕄 :=
  iprop((uSt m c 0 (par u) (u / 2) ∗ uSt m c 1 (par u) (u / 2)) ∗ uSt m c 0 (par (u + 1)) ((u + 1) / 2) ∗ uSt m c 1 (par (u + 1)) ((u + 1) / 2))

/-- Before unit `u`. -/
def unSt (c : Dev nD) (u : ℕ) : sProp 𝕄 :=
  iprop(stA m c u ∗ stB m c u ∗ owing c (rem c (rk u)) ∗ levs m c ∗ (((c : Thread nD τ).loc cc0_scratch2) ↦{fullShare} w8A m c) ∗ lanes m c u)

/-- Unit `u` with its accumulator half filled and not yet copied out. -/
def unMid (c : Dev nD) (u : ℕ) (hu : u < 8) : sProp 𝕄 :=
  iprop(stA m c (u + 1) ∗ stB m c (u + 1) ∗ owing c (rem c (rk (u + 1))) ∗ levs m c ∗ (((c : Thread nD τ).loc cc0_scratch2) ↦{fullShare} w8A m c)
    ∗ (uFull m c 0 (par u) ⟨u / 2, by omega⟩ ∗ uFull m c 1 (par u) ⟨u / 2, by omega⟩) ∗ uSt m c 0 (par (u + 1)) ((u + 1) / 2) ∗ uSt m c 1 (par (u + 1)) ((u + 1) / 2))

/-- A lane that no unit has written yet is idle. -/
theorem uSt_zero (c : Dev nD) (d nh : Fin 2) {t : ℕ} (h : t = 0) : uSt m c d nh t = uIdle m c d nh t := by subst h; exact if_pos rfl
/-- A lane that a unit has written has its copy in flight. -/
theorem uSt_pos (c : Dev nD) (d nh : Fin 2) {t : ℕ} (h : t ≠ 0) : uSt m c d nh t = uBusy m c d nh t := if_neg h

/-- The product of unit `u`, from the two lanes idle. -/
theorem unProd (c : Dev nD) (u : ℕ) (hu : u < 8) {off₁ off₂ off₃ inb₁ inb₂ inb₃}
    (e₁ : off₁ = ![u / 2, 0, 0]) (e₂ : off₂ = ![0, 1024 * (u % 2)]) (e₃ : off₃ = ![0, 1024 * (u % 2)]) {hl₁ hl₂ hl₃ hx hm}
    {α : Type} {Q : α → sProp 𝕄} {a : α} :
    iprop(stA m c (u + 1) ∗ stB m c (u + 1) ∗ owing c (rem c (rk (u + 1))) ∗ levs m c ∗ (((c : Thread nD τ).loc cc0_scratch2) ↦{fullShare} w8A m c)
        ∗ (uIdle m c 0 (par u) (u / 2) ∗ uIdle m c 1 (par u) (u / 2)) ∗ uSt m c 0 (par (u + 1)) ((u + 1) / 2) ∗ uSt m c 1 (par (u + 1)) ((u + 1) / 2))
      ⊢ iprop((unMid m c u hu -∗ Q a)
          -∗ wp frame (wpE (defs₀ (F := F)) 𝒱₀ (c : Thread nD τ) none) Set.univ
              (.op (.load cM (Rect.unit (s := S4x1024x4096) off₁ S1x1024x4096.size inb₁).toLoadRect hl₁) fun v149 =>
                .op (.load eM (Rect.unit (s := S4096x2048) off₂ S4096x1024.size inb₂).toLoadRect hl₂) fun v152 =>
                .op (.load aM (Rect.unit (s := S1024x2048) off₃ S1024x1024.size inb₃).toLoadRect hl₃) fun _ =>
                .op (.store aM (Rect.unit (s := S1024x2048) off₃ S1024x1024.size inb₃) (k0_pay1 (scA m c) v149 v152) Finset.univ hx hm) fun _ => .ret a) Q) := by
  iintro ⟨HA, HB, HO, HL, H8, ⟨H0, H1⟩, Hx⟩ Hk
  ihave H := (lev_acc m c u hu) $$ [HL HA HB]
  · isplitl [HL]; · iexact HL
    isplitl [HA] <;> iassumption
  icases H with ⟨%q, HL, Hback⟩
  iapply (stageD m c ⟨u / 2, by omega⟩ (par u) q e₁ e₂ e₃) $$ [HL H8 H0 H1]
  · isplitl [HL]; · iexact HL
    isplitl [H8]; · iexact H8
    isplitl [H0]; · iexact H0
    iexact H1
  iintro ⟨HL, H8, H0, H1⟩
  ispecialize Hback $$ HL
  icases Hback with ⟨HL, HA, HB⟩
  rw [wp_ret]; imodintro
  iapply Hk
  unfold unMid
  isplitl [HA]; · iexact HA
  isplitl [HB]; · iexact HB
  isplitl [HO]; · iexact HO
  isplitl [HL]; · iexact HL
  isplitl [H8]; · iexact H8
  isplitl [H0 H1]
  · isplitl [H0] <;> iassumption
  iexact Hx

/-- The third hop's upward transfer goes one up. -/
theorem dev7_tgt (c : Dev nD) (h) : (⟨k0_dev7 c, h⟩ : Dev nD) = tgt 0 c := Fin.ext (k0_dev7_eq c)
/-- The third hop's downward transfer goes one down. -/
theorem dev8_tgt (c : Dev nD) (h) : (⟨k0_dev8 c, h⟩ : Dev nD) = tgt 1 c := Fin.ext (k0_dev8_eq c)

/-- A unit up to its copies. -/
theorem unit_mid (K : Dev nD × Fin 13 → ℕ) (c : Dev nD) (v2 v4 v6 : BitVec 32) (t : Fin k0_t2_loop.trips) (ht : t.val < 8) (Kt : BitVec 32 → sProp 𝕄) :
    iprop((records m K ∗ levAts L lv ∗ unSt m c t.val) ∗ (∀ a, unMid m c t.val ht -∗ Kt a))
      ⊢ wp frame (wpE (defs₀ (F := F)) 𝒱₀ (c : Thread nD τ) none) Set.univ
        (k0_part2 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v2 v4 v6 (scA m c) 0#32 1#32 t) Kt := by
  rw [k0_part2_eq_skeleton]
  unfold k0_part2_skel unSt lanes
  dsimp only
  simp only [Prog.lift, Prog.bind_op, Prog.bind_ret, Prog.pure_eq_ret, Prog.bind_assoc]
  by_cases h3 : t.val = 3
  · rw [dif_pos ((cond2_iff t).mpr h3), dif_neg (fun h => by have := (cond3_iff t).mp h; omega), dif_pos ((cond4_iff t).mpr (by omega)),
      k0_part1_eq_skeleton]
    unfold k0_part1_skel
    simp only [Prog.lift, Prog.bind_op, Prog.bind_ret, Prog.pure_eq_ret, Prog.bind_assoc]
    rw [stA_le m c (by omega), rk_le (by omega), stB_le m c (u := t.val) (by omega), uSt_pos m c 0 _ (by omega), uSt_pos m c 1 _ (by omega)]
    iintro ⟨⟨#HR, #Hlev, HA, HB, HO, HL, H8, ⟨H0, H1⟩, Hx⟩, Hk⟩
    iapply (stageA m K c _ _ (dev7_tgt c _) (dev8_tgt c _) (v_sem_eq 0 1 _ _ rfl) (v_sem_eq 1 1 _ _ rfl) (s_sem_eq 0 2 _ _ rfl) (s_sem_eq 1 2 _ _ rfl)
      (v_sem_eq 0 2 _ _ rfl) (v_sem_eq 1 2 _ _ rfl) rfl rfl rfl rfl) $$ [HA HO]
    · isplitr; · iexact HR
      isplitr; · iexact Hlev
      isplitl [HA] <;> iassumption
    iintro ⟨HA, HO⟩
    iapply (stageC m c (par t.val) (t.val / 2) 0 (u_sem_eq 0 (par t.val) _ _ (k0_off11_eq t)) (u_sem_eq 1 (par t.val) _ _ (k0_off14_eq t))) $$ [H0 H1 HO]
    · isplitr; · iexact Hlev
      isplitl [H0]; · iexact H0
      isplitl [H1] <;> iassumption
    iintro ⟨H0, H1, HO⟩
    iapply (unProd m c t.val ht (k0_off17_eq t) (k0_off18_eq t) (k0_off19_eq t)) $$ [HA HB HO HL H8 H0 H1 Hx]
    · rw [stA_gt m c (u := t.val + 1) (by omega), rk_gt (u := t.val + 1) (by omega), stB_le m c (u := t.val + 1) (by omega)]
      isplitl [HA]; · iexact HA
      isplitl [HB]; · iexact HB
      isplitl [HO]; · iexact HO
      isplitl [HL]; · iexact HL
      isplitl [H8]; · iexact H8
      isplitl [H0 H1]
      · isplitl [H0] <;> iassumption
      iexact Hx
    iapply Hk
  by_cases h6 : t.val = 6
  · rw [dif_neg (fun h => h3 ((cond2_iff t).mp h)), dif_pos ((cond3_iff t).mpr h6), dif_pos ((cond4_iff t).mpr (by omega)),
      stB_le m c (by omega), rk_gt (by omega), stA_gt m c (u := t.val) (by omega), uSt_pos m c 0 _ (by omega), uSt_pos m c 1 _ (by omega)]
    iintro ⟨⟨#HR, #Hlev, HA, HB, HO, HL, H8, ⟨H0, H1⟩, Hx⟩, Hk⟩
    iapply (stageB m K c (v_sem_eq 0 2 _ _ rfl) (v_sem_eq 1 2 _ _ rfl)) $$ [HB HO]
    · isplitr; · iexact HR
      isplitr; · iexact Hlev
      isplitl [HB] <;> iassumption
    iintro ⟨HB, HO⟩
    iapply (stageC m c (par t.val) (t.val / 2) 0 (u_sem_eq 0 (par t.val) _ _ (k0_off11_eq t)) (u_sem_eq 1 (par t.val) _ _ (k0_off14_eq t))) $$ [H0 H1 HO]
    · isplitr; · iexact Hlev
      isplitl [H0]; · iexact H0
      isplitl [H1] <;> iassumption
    iintro ⟨H0, H1, HO⟩
    iapply (unProd m c t.val ht (k0_off17_eq t) (k0_off18_eq t) (k0_off19_eq t)) $$ [HA HB HO HL H8 H0 H1 Hx]
    · rw [stB_gt m c (u := t.val + 1) (by omega), rk_gt (u := t.val + 1) (by omega), stA_gt m c (u := t.val + 1) (by omega)]
      isplitl [HA]; · iexact HA
      isplitl [HB]; · iexact HB
      isplitl [HO]; · iexact HO
      isplitl [HL]; · iexact HL
      isplitl [H8]; · iexact H8
      isplitl [H0 H1]
      · isplitl [H0] <;> iassumption
      iexact Hx
    iapply Hk
  have eA : stA m c t.val = stA m c (t.val + 1) := by
    by_cases h : t.val ≤ 3
    · rw [stA_le m c h, stA_le m c (by omega)]
    · rw [stA_gt m c h, stA_gt m c (by omega)]
  have eR : rk t.val = rk (t.val + 1) := by
    by_cases h : t.val ≤ 3
    · rw [rk_le h, rk_le (by omega)]
    · rw [rk_gt h, rk_gt (by omega)]
  have eB : stB m c t.val = stB m c (t.val + 1) := by
    by_cases h : t.val ≤ 6
    · rw [stB_le m c h, stB_le m c (by omega)]
    · rw [stB_gt m c h, stB_gt m c (by omega)]
  rw [dif_neg (fun h => h3 ((cond2_iff t).mp h)), dif_neg (fun h => h6 ((cond3_iff t).mp h)), eA, eR, eB]
  by_cases h2 : 2 ≤ t.val
  · rw [dif_pos ((cond4_iff t).mpr h2), uSt_pos m c 0 _ (by omega), uSt_pos m c 1 _ (by omega)]
    iintro ⟨⟨#HR, #Hlev, HA, HB, HO, HL, H8, ⟨H0, H1⟩, Hx⟩, Hk⟩
    iapply (stageC m c (par t.val) (t.val / 2) _ (u_sem_eq 0 (par t.val) _ _ (k0_off11_eq t)) (u_sem_eq 1 (par t.val) _ _ (k0_off14_eq t))) $$ [H0 H1 HO]
    · isplitr; · iexact Hlev
      isplitl [H0]; · iexact H0
      isplitl [H1] <;> iassumption
    iintro ⟨H0, H1, HO⟩
    iapply (unProd m c t.val ht (k0_off17_eq t) (k0_off18_eq t) (k0_off19_eq t)) $$ [HA HB HO HL H8 H0 H1 Hx]
    · isplitl [HA]; · iexact HA
      isplitl [HB]; · iexact HB
      isplitl [HO]; · iexact HO
      isplitl [HL]; · iexact HL
      isplitl [H8]; · iexact H8
      isplitl [H0 H1]
      · isplitl [H0] <;> iassumption
      iexact Hx
    iapply Hk
  · rw [dif_neg (fun h => h2 ((cond4_iff t).mp h)), uSt_zero m c 0 _ (t := t.val / 2) (by omega), uSt_zero m c 1 _ (t := t.val / 2) (by omega)]
    iintro ⟨⟨#HR, #Hlev, HA, HB, HO, HL, H8, H01, Hx⟩, Hk⟩
    iapply (unProd m c t.val ht (k0_off17_eq t) (k0_off18_eq t) (k0_off19_eq t)) $$ [HA HB HO HL H8 H01 Hx]
    · isplitl [HA]; · iexact HA
      isplitl [HB]; · iexact HB
      isplitl [HO]; · iexact HO
      isplitl [HL]; · iexact HL
      isplitl [H8]; · iexact H8
      isplitl [H01] <;> iassumption
    iapply Hk

/-! ## The loop -/

abbrev trip2 (c : Dev nD) (v2 v4 v6 : BitVec 32) (v14 : F .f32) : Fin k0_t2_loop.trips → Unit → Prog (TpuEff nD τ sig (Elt F) Λ₀ .tc) Unit :=
  k0_t2_body (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v2 v4 v6 v14

/-- ONE UNIT. -/
theorem trip2_step (K : Dev nD × Fin 13 → ℕ) (c : Dev nD) (v2 v4 v6 : BitVec 32) (t : Fin k0_t2_loop.trips) :
    iprop(records m K ∗ levAts L lv ∗ unSt m c t.val)
      ⊢ wp frame (wpE (defs₀ (F := F)) 𝒱₀ (c : Thread nD τ) none) Set.univ (trip2 (F := F) c v2 v4 v6 (scA m c) t ())
          fun _ => iprop(records m K ∗ levAts L lv ∗ unSt m c (t.val + 1)) := by
  have ht : t.val < 8 := trips2 ▸ t.isLt
  have hl : t.val / 2 < 4 := by omega
  unfold trip2 k0_t2_body
  have hdup : iprop(records m K ∗ levAts L lv ∗ unSt m c t.val) ⊢ iprop((records m K ∗ levAts L lv) ∗ (records m K ∗ levAts L lv ∗ unSt m c t.val)) := by
    iintro ⟨#HR, #Hlev, H⟩
    isplitr
    · isplitr; · iexact HR
      iexact Hlev
    isplitr; · iexact HR
    isplitr; · iexact Hlev
    iexact H
  refine hdup.trans (wp_seq (B := fun _ => unMid m c t.val ht) (fun Kt => unit_mid m K c v2 v4 v6 t ht Kt) fun v165 => ?_)
  dsimp only
  simp only [Prog.lift, Prog.bind_op, Prog.bind_ret, Prog.pure_eq_ret, Prog.bind_assoc]
  unfold unMid
  iintro ⟨⟨#HR, #Hlev⟩, HA, HB, HO, HL, H8, ⟨H0, H1⟩, Hx⟩
  iapply (wp_out m c 0 (par t.val) ⟨t.val / 2, hl⟩ (k0_off22_eq t) (k0_off21_eq c t) (u_sem_eq 0 (par t.val) _ _ (k0_off20_eq t))) $$ H0
  iintro H0
  iapply (wp_out m c 1 (par t.val) ⟨t.val / 2, hl⟩ (k0_off25_eq t) (k0_off24_eq c t) (u_sem_eq 1 (par t.val) _ _ (k0_off23_eq t))) $$ H1
  iintro H1
  rw [wp_ret]; imodintro
  isplitr; · iexact HR
  isplitr; · iexact Hlev
  unfold unSt lanes
  isplitl [HA]; · iexact HA
  isplitl [HB]; · iexact HB
  isplitl [HO]; · iexact HO
  isplitl [HL]; · iexact HL
  isplitl [H8]; · iexact H8
  rw [par_two, show (t.val + 1 + 1) / 2 = t.val / 2 + 1 by omega, uSt_pos m c 0 _ (Nat.succ_ne_zero (t.val / 2)), uSt_pos m c 1 _ (Nat.succ_ne_zero (t.val / 2))]
  isplitl [Hx]; · iexact Hx
  isplitl [H0] <;> iassumption

/-- THE UNIT LOOP. -/
theorem loop2 (K : Dev nD × Fin 13 → ℕ) (c : Dev nD) (v2 v4 v6 : BitVec 32) {α : Type} {Q : α → sProp 𝕄} {kk : Unit → Prog (TpuEff nD τ sig (Elt F) Λ₀ .tc) α} :
    iprop(records m K ∗ levAts L lv ∗ unSt m c 0)
      ⊢ iprop((unSt m c 8 -∗ wp frame (wpE (defs₀ (F := F)) 𝒱₀ (c : Thread nD τ) none) Set.univ (kk ()) Q)
          -∗ wp frame (wpE (defs₀ (F := F)) 𝒱₀ (c : Thread nD τ) none) Set.univ (Scf.Loop.for k0_t2_loop k0_t2_ok () (trip2 (F := F) c v2 v4 v6 (scA m c)) >>= kk) Q) := by
  iintro H Hk
  iapply (Scf.wp_for_bind frame (wpE (defs₀ (F := F)) 𝒱₀ (c : Thread nD τ) none) Set.univ k0_t2_loop.lb k0_t2_loop.ub k0_t2_loop.st k0_t2_ok () (trip2 (F := F) c v2 v4 v6 (scA m c))
    (fun t _ => iprop(records m K ∗ levAts L lv ∗ unSt m c t)) (fun t _ => trip2_step m K c v2 v4 v6 t)) $$ H
  iintro %a H
  rw [show Scf.trips k0_t2_loop.lb k0_t2_loop.ub k0_t2_loop.st = 8 from trips2]
  icases H with ⟨-, -, H⟩
  iapply Hk; iexact H

end Cert.RingMM

end
-- ==== Proof.Hand.lean ====
/-
# The handshake, and the first level filled
-/
module

public import proofs.«01_k».proof.Proof.UnitLoop

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The first signalled device is one down. -/
theorem dev1_tgt (c : Dev nD) (h) : (⟨k0_dev1 c, h⟩ : Dev nD) = tgt 1 c := Fin.ext (k0_dev1_eq c)
/-- The second signalled device is one up. -/
theorem dev2_tgt (c : Dev nD) (h) : (⟨k0_dev2 c, h⟩ : Dev nD) = tgt 0 c := Fin.ext (k0_dev2_eq c)

/-- The staged operands: the device's rows and the two scales. -/
def stag (c : Dev nD) : sProp 𝕄 :=
  iprop((((c : Thread nD τ).loc cc0_stg0_0) ↦{fullShare} (xA m c : S1024x4096.Idx → Elt F .fp8e4m3))
    ∗ (((c : Thread nD τ).loc cc0_stg1_0) ↦{fullShare} (sxA m c : S1.Idx → Elt F .f32))
    ∗ (((c : Thread nD τ).loc cc0_stg2_0) ↦{fullShare} (swA m c : S1.Idx → Elt F .f32)))

/-- What the handshake starts from. -/
def pre3 (c : Dev nD) : sProp 𝕄 :=
  iprop(owing c (O₀ c) ∗ atPos ER (barCell c) 0 ∅ 0 ∗ cred (tallyAt (barCell c) () 2)
    ∗ dutyTok ER (barCell (tgt 1 c)) 0 true ∗ dutyTok ER (barCell (tgt 0 c)) 0 false
    ∗ landing c 0 ∗ landing c 1 ∗ (∃ f, cPts c 0 0 fullShare f) ∗ (∃ f, cPts c 0 1 fullShare f) ∗ stag m c)
/-- What it ends with. -/
def post3 (c : Dev nD) : sProp 𝕄 :=
  iprop(owing c (rem c 6) ∗ atPos ER (barCell c) (0 + 1) ∅ 0 ∗ landing (tgt 0 c) 0 ∗ landing (tgt 1 c) 1
    ∗ cPts c 0 0 fullShare (commA m c) ∗ cPts c 0 1 fullShare (commA m c) ∗ stag m c)

/-- What the store of the device's own rows leaves at level 0. -/
theorem store_own (c : Dev nD) (f : S4x1024x4096.Idx → Elt F .fp8e4m3) {inb} (i : S4x1024x4096.Idx) (hi : (i 0).val = 0) :
    (cM.access (Rect.unit (s := S4x1024x4096) ![0, 0, 0] S1x1024x4096.size inb)).write (Elt F) f (k0_pay3 (xA m c)) Finset.univ i = commA m c i := by
  have hx : i = (cM.access (Rect.unit (s := S4x1024x4096) ![0, 0, 0] S1x1024x4096.size inb)).emb (ix3 (0 : Fin 1) (i 1) (i 2)) := by
    funext a
    refine Fin.ext ?_
    match a with
    | 0 => show (i 0).val = 0 + 1 * 0; omega
    | 1 => show (i 1).val = 0 + 1 * (i 1).val; omega
    | 2 => show (i 2).val = 0 + 1 * (i 2).val; omega
  conv_lhs => rw [hx]
  refine ((cM.access (Rect.unit (s := S4x1024x4096) ![0, 0, 0] S1x1024x4096.size inb)).write_emb_of_mem f _ (Finset.mem_univ _)).trans ?_
  show k0_pay3 (xA m c) _ = _
  unfold k0_pay3 commA
  dsimp only
  rw [shapeCast_self]
  refine (shapeCast_ab_1ab_apply _ _ _ _ _).trans ?_
  rw [hi]
  have h1 : (i 1).val < 1024 := (i 1).isLt
  have : orig 0 ((i 1).val / 512) c = c := by
    have h2 : (i 1).val / 512 < 2 := by omega
    generalize (i 1).val / 512 = d at h2
    interval_cases d <;> revert c <;> decide
  rw [this]

/-- The product of the two scales as read. -/
theorem scale_read (c : Dev nD) (x y : S1.Idx) :
    k0_pay2 ((sxM.access (Rect.unit (s := S1) ![0] S1.size inb_S1_S1_0)).read (Elt F) (sxA m c) x)
      ((swM.access (Rect.unit (s := S1) ![0] S1.size inb_S1_S1_0)).read (Elt F) (swA m c) y) = scA m c := by
  have hz : ∀ i j : S1.Idx, i = j := fun i j => funext fun a => Fin.ext (by
    match a with
    | 0 => have h1 : (i 0).val < 1 := (i 0).isLt
           have h2 : (j 0).val < 1 := (j 0).isLt
           omega)
  exact congrArg₂ k0_pay2 (congrArg (sxA m c) (hz _ _)) (congrArg (swA m c) (hz _ _))

/-- THE HANDSHAKE: both neighbours signalled, both waited for, the device's own rows at level 0. -/
theorem part3 (K : Dev nD × Fin 13 → ℕ) (c : Dev nD) (Kt : (Σ' (d0 : Dev nD) (v2 : BitVec 32) (v4 : BitVec 32) (v6 : BitVec 32), F .f32) → sProp 𝕄) :
    iprop((records m K ∗ levAts L lv ∗ pre3 m c) ∗ (∀ v2 v4 v6, post3 m c -∗ Kt ⟨c, v2, v4, v6, scA m c⟩))
      ⊢ wp frame (wpE (defs₀ (F := F)) 𝒱₀ (c : Thread nD τ) none) Set.univ
        (k0_part3 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7) Kt := by
  rw [k0_part3_eq_skeleton]
  unfold k0_part3_skel
  simp only [smemLoad, smemLoadElt, semSignalWord, semWaitWord, Prog.lift, Prog.bind_op, Prog.bind_ret, Prog.pure_eq_ret, Prog.bind_assoc, wp_deviceId]
  simp only [dev1_tgt c, dev2_tgt c]
  have hb : (SemArray.scalar (sig.barrier 0 rfl) : Sems sig S_).sem = barS := rfl
  simp only [hb]
  have hj : (((c : Thread nD τ).loc cc0_scratch0) ↦[hSet 0 0 ∪ hSet 0 1]{fullShare} (commA m c) : sProp 𝕄) ⊢ iprop(cPts c 0 0 fullShare (commA m c) ∗ cPts c 0 1 fullShare (commA m c)) := by
    unfold cPts; exact (pointsTo_union (hSet_disj 0)).1
  unfold pre3 post3 stag owing O₀
  iintro ⟨⟨#HR, #Hlev, ⟨%W, HO⟩, Hat, Hc, Ht1, Ht0, HL0, HL1, ⟨%f0, Hc0⟩, ⟨%f1, Hc1⟩, Hx, Hsx, Hsw⟩, Hk⟩
  iapply (Rounds.wp_signal 𝒱₀ ER (rd m) (c : Thread nD τ) none (dst := (tgt 1 c : Thread nD τ)) (κ := K (tgt 1 c, 12))
      (d := true) (by rw [duties_bar]; exact Finset.mem_univ _) ((amount_bar m (tgt 1 c) true).trans (by decide)) () (O₁ c) rfl) $$ [HO Ht1 HL0]
  · isplitr; · iapply (inv_bar m K (tgt 1 c)); iexact HR
    isplitl [HO]; · iexact HO
    isplitl [Ht1]; · iexact Ht1
    isplitl [HL0]
    · rw [payload_bar_true, tgt_zero_one]; iexact HL0
    iapply (reached_bar m K (tgt 1 c)); iexact HR
  iintro HO
  unfold O₁
  iapply (Rounds.wp_signal 𝒱₀ ER (rd m) (c : Thread nD τ) none (dst := (tgt 0 c : Thread nD τ)) (κ := K (tgt 0 c, 12))
      (d := false) (by rw [duties_bar]; exact Finset.mem_univ _) ((amount_bar m (tgt 0 c) false).trans (by decide)) () (rem c 6) rfl) $$ [HO Ht0 HL1]
  · isplitr; · iapply (inv_bar m K (tgt 0 c)); iexact HR
    isplitl [HO]; · iexact HO
    isplitl [Ht0]; · iexact Ht0
    isplitl [HL1]
    · rw [payload_bar_false, tgt_one_zero]; iexact HL1
    iapply (reached_bar m K (tgt 0 c)); iexact HR
  iintro HO
  iapply (Rounds.wp_wait_rest_token 𝒱₀ ER (rd m) (c : Thread nD τ) none (κ := K (c, 12))
      (wpE_semWait_eq 𝒱₀ (c : Thread nD τ) none Set.univ) (Set.mem_univ _) () (O := rem c 6) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr
    · iapply (mayWait_rem c (.reg barS) 6 1 (Nat.le_refl 1) (fun j _ => by omega)); iexact Hlev
    iexact Hat
  iintro ⟨HO, Hat, -, Hpay⟩
  ihave Hpay := (Entails.of_eq (rest_bar m c)) $$ Hpay
  icases Hpay with ⟨HL1, HL0⟩
  iapply (wp_load_rect 𝒱₀ (c : Thread nD τ) none Set.univ (m := sxM) (r := Rect.unit (s := S1) ![0] S1.size inb_S1_S1_0) (Finset.subset_univ _)) $$ Hsx
  iintro Hsx
  iapply (wp_load_rect 𝒱₀ (c : Thread nD τ) none Set.univ (m := swM) (r := Rect.unit (s := S1) ![0] S1.size inb_S1_S1_0) (Finset.subset_univ _)) $$ Hsw
  iintro Hsw
  iapply (wp_load 𝒱₀ (c : Thread nD τ) none Set.univ (m := xM) (S := Finset.univ) (Finset.subset_univ _)) $$ Hx
  iintro Hx
  rw [show xM.view.readAt (Elt F) (Rect.unit (s := S1024x4096) ![0, 0] S1024x4096.size inb_S1024x4096_S1024x4096_0_0).toLoadRect (xA m c) = xA m c from
    Memref.readAt_unit_zero (Elt F) cc0_stg0_0 (by decide) _ _]
  unfold cPts
  have hjj := pointsTo_join (Val := Elt F) (Ix := Unit) (Name := ℕ) (U := UU) (Lvl := ℕ) (ℓ := (c : Thread nD τ).loc cc0_scratch0) (q := fullShare) (f := f0) (g := f1) (hSet_disj 0)
  ihave H := hjj $$ [Hc0 Hc1]
  · isplitl [Hc0]; · iexact Hc0
    iexact Hc1
  iapply (wp_load 𝒱₀ (c : Thread nD τ) none Set.univ (m := cM) (S := hSet 0 0 ∪ hSet 0 1) (q := fullShare) ?hS) $$ H
  case hS => exact Memref.setOn_subset_of_access_subset (c : Thread nD τ) (level_access 0 _ _ rfl)
  iintro H
  iapply (wp_store 𝒱₀ (c : Thread nD τ) none Set.univ (m := cM) (r := Rect.unit (s := S4x1024x4096) ![0, 0, 0] S1x1024x4096.size inb_S4x1024x4096_S1x1024x4096_0_0_0) (Mk := Finset.univ) (S := hSet 0 0 ∪ hSet 0 1) ?hS) $$ H
  case hS => exact level_access 0 _ _ rfl
  iintro H
  ihave H := (Entails.of_eq (pointsTo_congr (g := commA m c) (f := (cM.access (Rect.unit (s := S4x1024x4096) ![0, 0, 0] S1x1024x4096.size inb_S4x1024x4096_S1x1024x4096_0_0_0)).write (Elt F) ((hSet 0 1).piecewise f1 f0) (k0_pay3 (xA m c)) Finset.univ)
      fun i hi => store_own m c _ i (by rcases Finset.mem_union.mp hi with h | h <;> exact (mem_hSet.mp h).1))) $$ H
  ihave H := hj $$ H
  unfold cPts
  icases H with ⟨Hc0, Hc1⟩
  rw [wp_ret]; imodintro
  rw [scale_read m c]
  iapply Hk $$ %_ %_ %_
  isplitl [HO]; · iexists _; iexact HO
  isplitl [Hat]; · iexact Hat
  isplitl [HL0]; · iexact HL0
  isplitl [HL1]; · iexact HL1
  isplitl [Hc0]; · iexact Hc0
  isplitl [Hc1]; · iexact Hc1
  isplitl [Hx]; · iexact Hx
  isplitl [Hsx] <;> iassumption

end Cert.RingMM

end
-- ==== Proof.Parts.lean ====
/-
# The body, part by part
-/
module

public import proofs.«01_k».proof.Proof.Hand

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The first hop's upward transfer goes one up. -/
theorem dev3_tgt (c : Dev nD) (h) : (⟨k0_dev3 c, h⟩ : Dev nD) = tgt 0 c := Fin.ext (k0_dev3_eq c)
/-- The first hop's downward transfer goes one down. -/
theorem dev4_tgt (c : Dev nD) (h) : (⟨k0_dev4 c, h⟩ : Dev nD) = tgt 1 c := Fin.ext (k0_dev4_eq c)
/-- The second hop's upward transfer goes one up. -/
theorem dev5_tgt (c : Dev nD) (h) : (⟨k0_dev5 c, h⟩ : Dev nD) = tgt 0 c := Fin.ext (k0_dev5_eq c)
/-- The second hop's downward transfer goes one down. -/
theorem dev6_tgt (c : Dev nD) (h) : (⟨k0_dev6 c, h⟩ : Dev nD) = tgt 1 c := Fin.ext (k0_dev6_eq c)

/-! ## The first hops and the weight -/

def pre4 (c : Dev nD) : sProp 𝕄 :=
  iprop(owing c (rem c 6) ∗ hopToks c 0 0 ∗ hopToks c 1 0 ∗ cPts c 0 0 fullShare.left (commA m c) ∗ cPts c 0 1 fullShare.left (commA m c)
    ∗ (∃ f, cPts (tgt 0 c) 1 0 fullShare f) ∗ (∃ f, cPts (tgt 1 c) 1 1 fullShare f)
    ∗ wIdle m c 0 ∗ wIdle m c 1 ∗ ∃ f : S4096x2048.Idx → Elt F .fp8e4m3, ((c : Thread nD τ).loc cc0_scratch2) ↦{fullShare} f)
def post4 (c : Dev nD) : sProp 𝕄 :=
  iprop(owing c (rem c 4) ∗ sndKit c 0 0 ∗ sndKit c 1 0 ∗ wIdle m c 0 ∗ wIdle m c 1 ∗ (((c : Thread nD τ).loc cc0_scratch2) ↦{fullShare} w8A m c))

/-- THE FIRST HOPS start, and the weight is narrowed meanwhile. -/
theorem part4 (K : Dev nD × Fin 13 → ℕ) (c : Dev nD) (v4 v6 : BitVec 32) (Kt : (Σ' (v47 : BitVec 32), BitVec 32) → sProp 𝕄) :
    iprop((records m K ∗ levAts L lv ∗ pre4 m c) ∗ (∀ a, post4 m c -∗ Kt a))
      ⊢ wp frame (wpE (defs₀ (F := F)) 𝒱₀ (c : Thread nD τ) none) Set.univ
        (k0_part4 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v4 v6) Kt := by
  rw [k0_part4_eq_skeleton]
  unfold k0_part4_skel pre4 post4
  dsimp only
  simp only [Prog.lift, Prog.bind_op, Prog.bind_ret, Prog.pure_eq_ret]
  iintro ⟨⟨#HR, #Hlev, HO, Ht0, Ht1, Hc0, Hc1, HL0, HL1, Hw0, Hw1, H8⟩, Hk⟩
  iapply (wp_hop m K c _ 5 0 0 (dev3_tgt c _) rfl rfl rfl rfl (s_sem_eq 0 0 _ _ rfl) (v_sem_eq 0 0 _ _ rfl)) $$ [HO Ht0 Hc0 HL0]
  · isplitr; · iexact HR
    isplitl [Hc0]; · iexact Hc0
    isplitl [HL0]; · iexact HL0
    isplitl [HO]; · iexact HO
    iexact Ht0
  iintro ⟨Hs0, HO⟩
  iapply (wp_hop m K c _ 4 1 0 (dev4_tgt c _) rfl rfl rfl rfl (s_sem_eq 1 0 _ _ rfl) (v_sem_eq 1 0 _ _ rfl)) $$ [HO Ht1 Hc1 HL1]
  · isplitr; · iexact HR
    isplitl [Hc1]; · iexact Hc1
    isplitl [HL1]; · iexact HL1
    isplitl [HO]; · iexact HO
    iexact Ht1
  iintro ⟨Hs1, HO⟩
  iapply (wp_stage m c 0 0 (by decide) rfl k0_off2_eq (w_sem_eq 0 _ _ k0_off1_eq)) $$ Hw0
  iintro Hw0
  iapply (loop1 m c v4 v6) $$ [Hw0 Hw1 H8 HO]
  · isplitr; · iexact Hlev
    isplitl [Hw0]; · iexact Hw0
    isplitl [Hw1]; · iexact Hw1
    isplitl [H8] <;> iassumption
  iintro ⟨Hw0, Hw1, H8, HO⟩
  rw [wp_ret]; imodintro
  iapply Hk $$ %_
  isplitl [HO]; · iexact HO
  isplitl [Hs0]; · iexact Hs0
  isplitl [Hs1]; · iexact Hs1
  isplitl [Hw0]; · iexact Hw0
  isplitl [Hw1] <;> iassumption

/-! ## The first landings and the second hop up -/

def pre5 (c : Dev nD) : sProp 𝕄 :=
  iprop(owing c (rem c 4) ∗ rcvKit c 0 0 ∗ rcvKit c 1 0 ∗ hopToks c 0 1 ∗ ∃ f, cPts (tgt 0 c) 2 0 fullShare f)
def post5 (c : Dev nD) : sProp 𝕄 :=
  iprop(owing c (rem c 3) ∗ atPos ER (vCell c 0 0) (0 + 1) ∅ 0 ∗ atPos ER (vCell c 1 0) (0 + 1) ∅ 0 ∗ sndKit c 0 1
    ∗ cPts c 1 0 fullShare.right (commA m c) ∗ cPts c 1 1 fullShare.right (commA m c) ∗ cPts c 1 1 fullShare.left (commA m c))

/-- THE FIRST LANDINGS, and the second hop up. -/
theorem part5 (K : Dev nD × Fin 13 → ℕ) (c : Dev nD) (v4 v6 v47 c0 : BitVec 32) (Kt : PUnit → sProp 𝕄) :
    iprop((records m K ∗ levAts L lv ∗ pre5 c) ∗ (∀ a, post5 m c -∗ Kt a))
      ⊢ wp frame (wpE (defs₀ (F := F)) 𝒱₀ (c : Thread nD τ) none) Set.univ
        (k0_part5 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v4 v6 v47 c0) Kt := by
  rw [k0_part5_eq_skeleton]
  unfold k0_part5_skel pre5 post5
  dsimp only
  simp only [Prog.lift, Prog.bind_op, Prog.bind_ret, Prog.pure_eq_ret]
  have hs0 := (cPts_share c (((0 : Fin 3).val) + 1) (0 : Fin 2).val (commA m c)).1
  have hs1 := (cPts_share c (((0 : Fin 3).val) + 1) (1 : Fin 2).val (commA m c)).1
  iintro ⟨⟨#HR, #Hlev, HO, Hr0, Hr1, Ht, HL⟩, Hk⟩
  iapply (wp_land m K c 0 0 4 (by decide) (v_sem_eq 0 0 _ _ rfl)) $$ [HO Hr0]
  · isplitr; · iexact HR
    isplitr; · iexact Hlev
    isplitl [Hr0]; · iexact Hr0
    iexact HO
  iintro ⟨HO, Hv0, Hp0⟩
  iapply (wp_land m K c 1 0 4 (by decide) (v_sem_eq 1 0 _ _ rfl)) $$ [HO Hr1]
  · isplitr; · iexact HR
    isplitr; · iexact Hlev
    isplitl [Hr1]; · iexact Hr1
    iexact HO
  iintro ⟨HO, Hv1, Hp1⟩
  ihave Hp0 := hs0 $$ Hp0
  icases Hp0 with ⟨Hl0, Hr0⟩
  ihave Hp1 := hs1 $$ Hp1
  icases Hp1 with ⟨Hl1, Hr1⟩
  iapply (wp_hop m K c _ 3 0 1 (dev5_tgt c _) rfl rfl rfl rfl (s_sem_eq 0 1 _ _ rfl) (v_sem_eq 0 1 _ _ rfl)) $$ [HO Ht Hl0 HL]
  · isplitr; · iexact HR
    isplitl [Hl0]; · iexact Hl0
    isplitl [HL]; · iexact HL
    isplitl [HO]; · iexact HO
    iexact Ht
  iintro ⟨Hs, HO⟩
  rw [wp_ret]; imodintro
  iapply Hk $$ %_
  isplitl [HO]; · iexact HO
  isplitl [Hv0]; · iexact Hv0
  isplitl [Hv1]; · iexact Hv1
  isplitl [Hs]; · iexact Hs
  isplitl [Hr0]; · iexact Hr0
  isplitl [Hr1]; · iexact Hr1
  iexact Hl1

/-! ## The second hop down and the units -/

def pre6 (c : Dev nD) : sProp 𝕄 :=
  iprop(owing c (rem c 3) ∗ hopToks c 1 1 ∗ (∃ f, cPts (tgt 1 c) 2 1 fullShare f) ∗ cPts c 1 1 fullShare.left (commA m c)
    ∗ preA c ∗ preB c ∗ levs m c ∗ (((c : Thread nD τ).loc cc0_scratch2) ↦{fullShare} w8A m c)
    ∗ (uIdle m c 0 0 0 ∗ uIdle m c 1 0 0) ∗ uIdle m c 0 1 0 ∗ uIdle m c 1 1 0)
def post6 (c : Dev nD) : sProp 𝕄 :=
  iprop(owing c (rem c 0) ∗ sndKit c 1 1 ∗ postA m c ∗ postB m c ∗ levs m c ∗ (((c : Thread nD τ).loc cc0_scratch2) ↦{fullShare} w8A m c)
    ∗ (uIdle m c 0 0 4 ∗ uBusy m c 1 0 4) ∗ uIdle m c 0 1 4 ∗ uBusy m c 1 1 4)

/-- THE SECOND HOP DOWN, every unit, and the first two lanes done. -/
theorem part6 (K : Dev nD × Fin 13 → ℕ) (c : Dev nD) (v2 v4 v6 : BitVec 32) (Kt : PUnit → sProp 𝕄) :
    iprop((records m K ∗ levAts L lv ∗ pre6 m c) ∗ (∀ a, post6 m c -∗ Kt a))
      ⊢ wp frame (wpE (defs₀ (F := F)) 𝒱₀ (c : Thread nD τ) none) Set.univ
        (k0_part6 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7 c v2 v4 v6 (scA m c)) Kt := by
  rw [k0_part6_eq_skeleton]
  unfold k0_part6_skel pre6 post6
  dsimp only
  simp only [Prog.lift, Prog.bind_op, Prog.bind_ret, Prog.pure_eq_ret]
  have h0 : iprop(preA c ∗ preB c ∗ owing c (rem c 2) ∗ levs m c ∗ (((c : Thread nD τ).loc cc0_scratch2) ↦{fullShare} w8A m c)
      ∗ (uIdle m c 0 0 0 ∗ uIdle m c 1 0 0) ∗ uIdle m c 0 1 0 ∗ uIdle m c 1 1 0) ⊢ unSt m c 0 := by
    unfold unSt lanes
    rw [stA_le m c (by omega), stB_le m c (by omega), rk_le (by omega), uSt_zero m c 0 _ (t := 0 / 2) rfl, uSt_zero m c 1 _ (t := 0 / 2) rfl,
      uSt_zero m c 0 _ (t := (0 + 1) / 2) rfl, uSt_zero m c 1 _ (t := (0 + 1) / 2) rfl]
    exact Entails.of_eq rfl
  have h8 : unSt m c 8 ⊢ iprop(postA m c ∗ postB m c ∗ owing c (rem c 0) ∗ levs m c ∗ (((c : Thread nD τ).loc cc0_scratch2) ↦{fullShare} w8A m c)
      ∗ (uBusy m c 0 0 4 ∗ uBusy m c 1 0 4) ∗ uBusy m c 0 1 4 ∗ uBusy m c 1 1 4) := by
    unfold unSt lanes
    rw [stA_gt m c (by omega), stB_gt m c (by omega), rk_gt (by omega), uSt_pos m c 0 _ (t := 8 / 2) (by decide), uSt_pos m c 1 _ (t := 8 / 2) (by decide),
      uSt_pos m c 0 _ (t := (8 + 1) / 2) (by decide), uSt_pos m c 1 _ (t := (8 + 1) / 2) (by decide)]
    exact Entails.of_eq rfl
  iintro ⟨⟨#HR, #Hlev, HO, Ht, HL, Hl, HA, HB, Hlv, H8, HU⟩, Hk⟩
  iapply (wp_hop m K c _ 2 1 1 (dev6_tgt c _) rfl rfl rfl rfl (s_sem_eq 1 1 _ _ rfl) (v_sem_eq 1 1 _ _ rfl)) $$ [HO Ht Hl HL]
  · isplitr; · iexact HR
    isplitl [Hl]; · iexact Hl
    isplitl [HL]; · iexact HL
    isplitl [HO]; · iexact HO
    iexact Ht
  iintro ⟨Hs, HO⟩
  iapply (loop2 m K c v2 v4 v6) $$ [HA HB HO Hlv H8 HU]
  · isplitr; · iexact HR
    isplitr; · iexact Hlev
    iapply h0
    isplitl [HA]; · iexact HA
    isplitl [HB]; · iexact HB
    isplitl [HO]; · iexact HO
    isplitl [Hlv]; · iexact Hlv
    isplitl [H8] <;> iassumption
  iintro H
  ihave H := h8 $$ H
  icases H with ⟨HA, HB, HO, Hlv, H8, ⟨HU00, HU10⟩, HU01, HU11⟩
  iapply (wp_outed m c 0 0 4 0 (u_sem_eq 0 0 _ _ rfl)) $$ [HU00 HO]
  · isplitr; · iexact Hlev
    isplitl [HU00]; · iexact HU00
    iexact HO
  iintro ⟨HU00, HO⟩
  iapply (wp_outed m c 0 1 4 0 (u_sem_eq 0 1 _ _ rfl)) $$ [HU01 HO]
  · isplitr; · iexact Hlev
    isplitl [HU01]; · iexact HU01
    iexact HO
  iintro ⟨HU01, HO⟩
  rw [wp_ret]; imodintro
  iapply Hk $$ %_
  isplitl [HO]; · iexact HO
  isplitl [Hs]; · iexact Hs
  isplitl [HA]; · iexact HA
  isplitl [HB]; · iexact HB
  isplitl [Hlv]; · iexact Hlv
  isplitl [H8]; · iexact H8
  isplitl [HU00 HU10]
  · isplitl [HU00]; · iexact HU00
    iexact HU10
  isplitl [HU01]; · iexact HU01
  iexact HU11

/-! ## The waits for the sources and the other lanes -/

def pre7 (c : Dev nD) : sProp 𝕄 := iprop(owing c (rem c 0) ∗ sndKit c 0 0 ∗ sndKit c 0 1 ∗ sndKit c 0 2 ∗ uBusy m c 1 0 4)
def post7 (c : Dev nD) : sProp 𝕄 :=
  iprop(owing c (rem c 0) ∗ (atPos ER (sCell c 0 0) (0 + 1) ∅ 0 ∗ cPts c 0 0 fullShare.left (commA m c))
    ∗ (atPos ER (sCell c 0 1) (0 + 1) ∅ 0 ∗ cPts c 1 0 fullShare.left (commA m c))
    ∗ (atPos ER (sCell c 0 2) (0 + 1) ∅ 0 ∗ cPts c 2 0 fullShare.left (commA m c)) ∗ uIdle m c 1 0 4)

/-- THE UPWARD SENDS done. -/
theorem part7 (K : Dev nD × Fin 13 → ℕ) (c : Dev nD) (Kt : PUnit → sProp 𝕄) :
    iprop((records m K ∗ levAts L lv ∗ pre7 m c) ∗ (∀ a, post7 m c -∗ Kt a))
      ⊢ wp frame (wpE (defs₀ (F := F)) 𝒱₀ (c : Thread nD τ) none) Set.univ
        (k0_part7 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7) Kt := by
  rw [k0_part7_eq_skeleton]
  unfold k0_part7_skel pre7 post7
  dsimp only
  simp only [Prog.lift, Prog.bind_op, Prog.bind_ret, Prog.pure_eq_ret]
  iintro ⟨⟨#HR, #Hlev, HO, Hs0, Hs1, Hs2, HU⟩, Hk⟩
  iapply (wp_sent m K c 0 0 (s_sem_eq 0 0 _ _ rfl)) $$ [HO Hs0]
  · isplitr; · iexact HR
    isplitr; · iexact Hlev
    isplitl [Hs0]; · iexact Hs0
    iexact HO
  iintro ⟨HO, Hs0⟩
  iapply (wp_sent m K c 0 1 (s_sem_eq 0 1 _ _ rfl)) $$ [HO Hs1]
  · isplitr; · iexact HR
    isplitr; · iexact Hlev
    isplitl [Hs1]; · iexact Hs1
    iexact HO
  iintro ⟨HO, Hs1⟩
  iapply (wp_sent m K c 0 2 (s_sem_eq 0 2 _ _ rfl)) $$ [HO Hs2]
  · isplitr; · iexact HR
    isplitr; · iexact Hlev
    isplitl [Hs2]; · iexact Hs2
    iexact HO
  iintro ⟨HO, Hs2⟩
  iapply (wp_outed m c 1 0 4 0 (u_sem_eq 1 0 _ _ rfl)) $$ [HU HO]
  · isplitr; · iexact Hlev
    isplitl [HU]; · iexact HU
    iexact HO
  iintro ⟨HU, HO⟩
  rw [wp_ret]; imodintro
  iapply Hk $$ %_
  isplitl [HO]; · iexact HO
  isplitl [Hs0]; · iexact Hs0
  isplitl [Hs1]; · iexact Hs1
  isplitl [Hs2]; · iexact Hs2
  iexact HU

end Cert.RingMM

end
-- ==== Proof.Body.lean ====
/-
# The whole body
-/
module

public import proofs.«01_k».proof.Proof.Parts

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A send cell at its end, and the source's left share back. -/
def sent (c : Dev nD) (d : Fin 2) (h : Fin 3) : sProp 𝕄 :=
  iprop(atPos ER (sCell c d h) (0 + 1) ∅ 0 ∗ cPts c h.val d.val fullShare.left (commA m c))

/-- What the body starts from. -/
def pre8 (c : Dev nD) : sProp 𝕄 :=
  iprop(pre3 m c ∗ (hopToks c 0 0 ∗ hopToks c 1 0 ∗ hopToks c 0 1 ∗ hopToks c 1 1 ∗ hopToks c 0 2 ∗ hopToks c 1 2)
    ∗ (rcvKit c 0 0 ∗ rcvKit c 1 0 ∗ rcvKit c 0 1 ∗ rcvKit c 1 1 ∗ rcvKit c 0 2 ∗ rcvKit c 1 2)
    ∗ (wIdle m c 0 ∗ wIdle m c 1 ∗ ∃ f : S4096x2048.Idx → Elt F .fp8e4m3, ((c : Thread nD τ).loc cc0_scratch2) ↦{fullShare} f)
    ∗ (uIdle m c 0 0 0 ∗ uIdle m c 1 0 0) ∗ uIdle m c 0 1 0 ∗ uIdle m c 1 1 0)

/-- What it ends with, the last send wait still to come. -/
def post8 (c : Dev nD) : sProp 𝕄 :=
  iprop(owing c (rem c 0) ∗ atPos ER (barCell c) (0 + 1) ∅ 0 ∗ stag m c
    ∗ (atPos ER (vCell c 0 0) (0 + 1) ∅ 0 ∗ atPos ER (vCell c 1 0) (0 + 1) ∅ 0 ∗ atPos ER (vCell c 0 1) (0 + 1) ∅ 0 ∗ atPos ER (vCell c 1 1) (0 + 1) ∅ 0
      ∗ atPos ER (vCell c 0 2) (0 + 1) ∅ 0 ∗ atPos ER (vCell c 1 2) (0 + 1) ∅ 0)
    ∗ (sent m c 0 0 ∗ sent m c 1 0 ∗ sent m c 0 1 ∗ sent m c 1 1 ∗ sent m c 0 2)
    ∗ sndKit c 1 2
    ∗ (levs m c ∗ cPts c 2 0 fullShare.right (commA m c) ∗ cPts c 2 1 fullShare.right (commA m c)
      ∗ cPts c 3 0 fullShare (commA m c) ∗ cPts c 3 1 fullShare (commA m c))
    ∗ (wIdle m c 0 ∗ wIdle m c 1 ∗ (((c : Thread nD τ).loc cc0_scratch2) ↦{fullShare} w8A m c))
    ∗ (uIdle m c 0 0 4 ∗ uIdle m c 1 0 4) ∗ uIdle m c 0 1 4 ∗ uIdle m c 1 1 4)

/-- THE BODY up to its last wait. -/
theorem part8 (K : Dev nD × Fin 13 → ℕ) (c : Dev nD) (Kt : PUnit → sProp 𝕄) :
    iprop((records m K ∗ levAts L lv ∗ pre8 m c) ∗ (∀ a, post8 m c -∗ Kt a))
      ⊢ wp frame (wpE (defs₀ (F := F)) 𝒱₀ (c : Thread nD τ) none) Set.univ
        (k0_part8 (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7) Kt := by
  rw [k0_part8_eq_skeleton]
  unfold k0_part8_skel
  dsimp only
  rw [wp_bind]
  have hs0 := (cPts_share c 0 0 (commA m c)).1
  have hs1 := (cPts_share c 0 1 (commA m c)).1
  unfold pre8 post8
  iintro ⟨⟨#HR, #Hlev, H3, ⟨Ht00, Ht10, Ht01, Ht11, Ht02, Ht12⟩, ⟨Hr00, Hr10, Hr01, Hr11, Hr02, Hr12⟩, ⟨Hw0, Hw1, H8⟩, HU⟩, Hk⟩
  iapply (part3 m K c _)
  isplitl [H3]
  · isplitr; · iexact HR
    isplitr; · iexact Hlev
    iexact H3
  iintro %v2 %v4 %v6 H3
  unfold post3 landing
  icases H3 with ⟨HO, Hbar, ⟨%f0, HL10, HL20, HL30⟩, ⟨%f1, HL11, HL21, HL31⟩, Hc0, Hc1, Hst⟩
  ihave Hc0 := hs0 $$ Hc0
  icases Hc0 with ⟨Hc0l, Hc0r⟩
  ihave Hc1 := hs1 $$ Hc1
  icases Hc1 with ⟨Hc1l, Hc1r⟩
  dsimp only
  rw [wp_bind]
  iapply (part4 m K c v4 v6 _)
  isplitl [HO Ht00 Ht10 Hc0l Hc1l HL10 HL11 Hw0 Hw1 H8]
  · isplitr; · iexact HR
    isplitr; · iexact Hlev
    unfold pre4
    isplitl [HO]; · iexact HO
    isplitl [Ht00]; · iexact Ht00
    isplitl [Ht10]; · iexact Ht10
    isplitl [Hc0l]; · iexact Hc0l
    isplitl [Hc1l]; · iexact Hc1l
    isplitl [HL10]; · iexists f0; iexact HL10
    isplitl [HL11]; · iexists f1; iexact HL11
    isplitl [Hw0]; · iexact Hw0
    isplitl [Hw1]; · iexact Hw1
    iexact H8
  iintro %a4 H4
  unfold post4
  icases H4 with ⟨HO, Hs00, Hs10, Hw0, Hw1, H8⟩
  rw [wp_bind]
  iapply (part5 m K c v4 v6 _ _ _)
  isplitl [HO Hr00 Hr10 Ht01 HL20]
  · isplitr; · iexact HR
    isplitr; · iexact Hlev
    unfold pre5
    isplitl [HO]; · iexact HO
    isplitl [Hr00]; · iexact Hr00
    isplitl [Hr10]; · iexact Hr10
    isplitl [Ht01]; · iexact Ht01
    iexists f0; iexact HL20
  iintro %a5 H5
  unfold post5
  icases H5 with ⟨HO, Hv00, Hv10, Hs01, Hc10r, Hc11r, Hc11l⟩
  rw [wp_bind]
  iapply (part6 m K c v2 v4 v6 _)
  isplitl [HO Ht11 HL21 Hc11l Hr01 Hr11 Ht02 Ht12 HL30 HL31 Hr02 Hr12 Hc0r Hc1r Hc10r Hc11r H8 HU]
  · isplitr; · iexact HR
    isplitr; · iexact Hlev
    unfold pre6 preA preB levs
    isplitl [HO]; · iexact HO
    isplitl [Ht11]; · iexact Ht11
    isplitl [HL21]; · iexists f1; iexact HL21
    isplitl [Hc11l]; · iexact Hc11l
    isplitl [Hr01 Hr11 Ht02 Ht12 HL30 HL31]
    · isplitl [Hr01]; · iexact Hr01
      isplitl [Hr11]; · iexact Hr11
      isplitl [Ht02]; · iexact Ht02
      isplitl [Ht12]; · iexact Ht12
      isplitl [HL30]; · iexists f0; iexact HL30
      iexists f1; iexact HL31
    isplitl [Hr02 Hr12]
    · isplitl [Hr02]; · iexact Hr02
      iexact Hr12
    isplitl [Hc0r Hc1r Hc10r Hc11r]
    · isplitl [Hc0r]; · iexact Hc0r
      isplitl [Hc1r]; · iexact Hc1r
      isplitl [Hc10r]; · iexact Hc10r
      iexact Hc11r
    isplitl [H8]; · iexact H8
    iexact HU
  iintro %a6 H6
  unfold post6 postA postB
  icases H6 with ⟨HO, Hs11, ⟨Hv01, Hv11, Hs02, Hs12, Hc20, Hc21⟩, ⟨Hv02, Hv12, Hc30, Hc31⟩, Hlv, H8, ⟨HU00, HU10⟩, HU01, HU11⟩
  rw [wp_bind]
  iapply (part7 m K c _)
  isplitl [HO Hs00 Hs01 Hs02 HU10]
  · isplitr; · iexact HR
    isplitr; · iexact Hlev
    unfold pre7
    isplitl [HO]; · iexact HO
    isplitl [Hs00]; · iexact Hs00
    isplitl [Hs01]; · iexact Hs01
    isplitl [Hs02]; · iexact Hs02
    iexact HU10
  iintro %a7 H7
  unfold post7
  icases H7 with ⟨HO, Hs00, Hs01, Hs02, HU10⟩
  simp only [Prog.lift, Prog.bind_op, Prog.bind_ret, Prog.pure_eq_ret]
  iapply (wp_outed m c 1 1 4 0 (u_sem_eq 1 1 _ _ rfl)) $$ [HU11 HO]
  · isplitr; · iexact Hlev
    isplitl [HU11]; · iexact HU11
    iexact HO
  iintro ⟨HU11, HO⟩
  iapply (wp_sent m K c 1 0 (s_sem_eq 1 0 _ _ rfl)) $$ [HO Hs10]
  · isplitr; · iexact HR
    isplitr; · iexact Hlev
    isplitl [Hs10]; · iexact Hs10
    iexact HO
  iintro ⟨HO, Hs10⟩
  iapply (wp_sent m K c 1 1 (s_sem_eq 1 1 _ _ rfl)) $$ [HO Hs11]
  · isplitr; · iexact HR
    isplitr; · iexact Hlev
    isplitl [Hs11]; · iexact Hs11
    iexact HO
  iintro ⟨HO, Hs11⟩
  rw [wp_ret]; imodintro
  iapply Hk $$ %_
  isplitl [HO]; · iexact HO
  isplitl [Hbar]; · iexact Hbar
  isplitl [Hst]; · iexact Hst
  isplitl [Hv00 Hv10 Hv01 Hv11 Hv02 Hv12]
  · isplitl [Hv00]; · iexact Hv00
    isplitl [Hv10]; · iexact Hv10
    isplitl [Hv01]; · iexact Hv01
    isplitl [Hv11]; · iexact Hv11
    isplitl [Hv02]; · iexact Hv02
    iexact Hv12
  isplitl [Hs00 Hs10 Hs01 Hs11 Hs02]
  · unfold sent
    isplitl [Hs00]; · iexact Hs00
    isplitl [Hs10]; · iexact Hs10
    isplitl [Hs01]; · iexact Hs01
    isplitl [Hs11]; · iexact Hs11
    iexact Hs02
  isplitl [Hs12]; · iexact Hs12
  isplitl [Hlv Hc20 Hc21 Hc30 Hc31]
  · isplitl [Hlv]; · iexact Hlv
    isplitl [Hc20]; · iexact Hc20
    isplitl [Hc21]; · iexact Hc21
    isplitl [Hc30]; · iexact Hc30
    iexact Hc31
  isplitl [Hw0 Hw1 H8]
  · isplitl [Hw0]; · iexact Hw0
    isplitl [Hw1]; · iexact Hw1
    iexact H8
  isplitl [HU00 HU10]
  · isplitl [HU00]; · iexact HU00
    iexact HU10
  isplitl [HU01]; · iexact HU01
  iexact HU11

/-- What the body ends with. -/
def post9 (c : Dev nD) : sProp 𝕄 :=
  iprop(owing c (rem c 0) ∗ atPos ER (barCell c) (0 + 1) ∅ 0 ∗ stag m c
    ∗ (atPos ER (vCell c 0 0) (0 + 1) ∅ 0 ∗ atPos ER (vCell c 1 0) (0 + 1) ∅ 0 ∗ atPos ER (vCell c 0 1) (0 + 1) ∅ 0 ∗ atPos ER (vCell c 1 1) (0 + 1) ∅ 0
      ∗ atPos ER (vCell c 0 2) (0 + 1) ∅ 0 ∗ atPos ER (vCell c 1 2) (0 + 1) ∅ 0)
    ∗ (sent m c 0 0 ∗ sent m c 1 0 ∗ sent m c 0 1 ∗ sent m c 1 1 ∗ sent m c 0 2)
    ∗ sent m c 1 2
    ∗ (levs m c ∗ cPts c 2 0 fullShare.right (commA m c) ∗ cPts c 2 1 fullShare.right (commA m c)
      ∗ cPts c 3 0 fullShare (commA m c) ∗ cPts c 3 1 fullShare (commA m c))
    ∗ (wIdle m c 0 ∗ wIdle m c 1 ∗ (((c : Thread nD τ).loc cc0_scratch2) ↦{fullShare} w8A m c))
    ∗ (uIdle m c 0 0 4 ∗ uIdle m c 1 0 4) ∗ uIdle m c 0 1 4 ∗ uIdle m c 1 1 4)

/-- THE BODY. -/
theorem whole_body (K : Dev nD × Fin 13 → ℕ) (c : Dev nD) (Kt : PUnit → sProp 𝕄) :
    iprop((records m K ∗ levAts L lv ∗ pre8 m c) ∗ ((records m K ∗ post9 m c) -∗ |={Set.univ}=> Kt ⟨⟩))
      ⊢ wp frame (wpE (defs₀ (F := F)) 𝒱₀ (c : Thread nD τ) none) Set.univ
        (cc0_body (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7) Kt := by
  rw [cc0_body_eq_skeleton]
  unfold cc0_body_skel
  dsimp only
  rw [wp_bind]
  iintro ⟨⟨#HR, #Hlev, H8⟩, Hk⟩
  iapply (part8 m K c _)
  isplitl [H8]
  · isplitr; · iexact HR
    isplitr; · iexact Hlev
    iexact H8
  iintro %a H
  unfold post8 post9
  icases H with ⟨HO, Hbar, Hst, Hv, Hs, Hs12, Hx⟩
  simp only [Prog.lift, Prog.bind_op, Prog.bind_ret, Prog.pure_eq_ret]
  iapply (wp_sent m K c 1 2 (s_sem_eq 1 2 _ _ rfl)) $$ [HO Hs12]
  · isplitr; · iexact HR
    isplitr; · iexact Hlev
    isplitl [Hs12]; · iexact Hs12
    iexact HO
  iintro ⟨HO, Hs12⟩
  rw [wp_ret]
  iapply Hk
  isplitr; · iexact HR
  isplitl [HO]; · iexact HO
  isplitl [Hbar]; · iexact Hbar
  isplitl [Hst]; · iexact Hst
  isplitl [Hv]; · iexact Hv
  isplitl [Hs]; · iexact Hs
  isplitl [Hs12]; · unfold sent; iexact Hs12
  iexact Hx

end Cert.RingMM

end
-- ==== Proof.Regions.lean ====
/-
# The buffers taken apart and put together
-/
module

public import proofs.«01_k».proof.Proof.Body

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Each buffer in its regions -/

omit [FloatOps F] in
/-- The exchange buffer in its eight half chunks. -/
theorem comm_split (c : Dev nD) (f : S4x1024x4096.Idx → Elt F .fp8e4m3) :
    (((c : Thread nD τ).loc cc0_scratch0) ↦{fullShare} f : sProp 𝕄)
      = iprop(cPts c 0 0 fullShare f ∗ cPts c 0 1 fullShare f ∗ cPts c 1 0 fullShare f ∗ cPts c 1 1 fullShare f
        ∗ cPts c 2 0 fullShare f ∗ cPts c 2 1 fullShare f ∗ cPts c 3 0 fullShare f ∗ cPts c 3 1 fullShare f) := by
  have hu : (Finset.univ : Finset S4x1024x4096.Idx) = (Finset.univ : Finset (Fin 4 × Fin 2)).biUnion fun p => hSet p.1.val p.2.val := by
    ext i
    have h0 : (i 0).val < 4 := (i 0).isLt
    have h1 : (i 1).val < 1024 := (i 1).isLt
    simp only [Finset.mem_univ, Finset.mem_biUnion, true_and, true_iff, mem_hSet]
    exact ⟨(⟨(i 0).val, h0⟩, ⟨(i 1).val / 512, by omega⟩), rfl, rfl⟩
  have hd : ∀ p ∈ (Finset.univ : Finset (Fin 4 × Fin 2)), ∀ p' ∈ (Finset.univ : Finset (Fin 4 × Fin 2)), p ≠ p' → Disjoint (hSet p.1.val p.2.val) (hSet p'.1.val p'.2.val) := by
    intro p _ p' _ hne
    refine Finset.disjoint_left.mpr fun i hi hi' => hne ?_
    rw [mem_hSet] at hi hi'
    exact Prod.ext (Fin.ext (hi.1.symm.trans hi'.1)) (Fin.ext (hi.2.symm.trans hi'.2))
  have e : (((c : Thread nD τ).loc cc0_scratch0) ↦[(Finset.univ : Finset S4x1024x4096.Idx)]{fullShare} f : sProp 𝕄)
      = bigSep Finset.univ fun p : Fin 4 × Fin 2 => cPts c p.1.val p.2.val fullShare f := by
    rw [hu]
    exact pointsTo_biUnion _ _ hd
  refine e.trans ?_
  rw [bigSep_univ_eq_bigSepL [(0, 0), (0, 1), (1, 0), (1, 1), (2, 0), (2, 1), (3, 0), (3, 1)] (by decide) (by decide)]
  rfl

omit [FloatOps F] in
/-- The result in its four lanes. -/
theorem out_split (c : Dev nD) (f : S4096x2048.Idx → Elt F .bf16) :
    (((c : Thread nD τ).loc main_v1) ↦{fullShare} f : sProp 𝕄)
      = iprop((((c : Thread nD τ).loc main_v1) ↦[lSet 0 0]{fullShare} f) ∗ (((c : Thread nD τ).loc main_v1) ↦[lSet 0 1]{fullShare} f)
        ∗ (((c : Thread nD τ).loc main_v1) ↦[lSet 1 0]{fullShare} f) ∗ (((c : Thread nD τ).loc main_v1) ↦[lSet 1 1]{fullShare} f)) := by
  have hu : (Finset.univ : Finset S4096x2048.Idx) = (Finset.univ : Finset (Fin 2 × Fin 2)).biUnion fun p => lSet p.1.val p.2.val := by
    ext i
    have h1 : (i 1).val < 2048 := (i 1).isLt
    simp only [Finset.mem_univ, Finset.mem_biUnion, true_and, true_iff, mem_lSet]
    exact ⟨(⟨(i 0).val / 512 % 2, Nat.mod_lt _ (by decide)⟩, ⟨(i 1).val / 1024, by omega⟩), rfl, rfl⟩
  have hd : ∀ p ∈ (Finset.univ : Finset (Fin 2 × Fin 2)), ∀ p' ∈ (Finset.univ : Finset (Fin 2 × Fin 2)), p ≠ p' → Disjoint (lSet p.1.val p.2.val) (lSet p'.1.val p'.2.val) := by
    intro p _ p' _ hne
    refine Finset.disjoint_left.mpr fun i hi hi' => hne ?_
    rw [mem_lSet] at hi hi'
    exact Prod.ext (Fin.ext (hi.1.symm.trans hi'.1)) (Fin.ext (hi.2.symm.trans hi'.2))
  have e : (((c : Thread nD τ).loc main_v1) ↦[(Finset.univ : Finset S4096x2048.Idx)]{fullShare} f : sProp 𝕄)
      = bigSep Finset.univ fun p : Fin 2 × Fin 2 => iprop(((c : Thread nD τ).loc main_v1) ↦[lSet p.1.val p.2.val]{fullShare} f) := by
    rw [hu]
    exact pointsTo_biUnion _ _ hd
  refine e.trans ?_
  rw [bigSep_univ_eq_bigSepL [(0, 0), (0, 1), (1, 0), (1, 1)] (by decide) (by decide)]
  rfl

omit [FloatOps F] in
/-- The accumulator in its four quadrants. -/
theorem acc_split (c : Dev nD) (f : S1024x2048.Idx → Elt F .bf16) :
    (((c : Thread nD τ).loc cc0_scratch1) ↦{fullShare} f : sProp 𝕄)
      = iprop(qPts c 0 0 f ∗ qPts c 0 1 f ∗ qPts c 1 0 f ∗ qPts c 1 1 f) := by
  have hu : (Finset.univ : Finset S1024x2048.Idx) = (Finset.univ : Finset (Fin 2 × Fin 2)).biUnion fun p => qSet p.1.val p.2.val := by
    ext i
    have h0 : (i 0).val < 1024 := (i 0).isLt
    have h1 : (i 1).val < 2048 := (i 1).isLt
    simp only [Finset.mem_univ, Finset.mem_biUnion, true_and, true_iff, mem_qSet]
    exact ⟨(⟨(i 0).val / 512, by omega⟩, ⟨(i 1).val / 1024, by omega⟩), rfl, rfl⟩
  have hd : ∀ p ∈ (Finset.univ : Finset (Fin 2 × Fin 2)), ∀ p' ∈ (Finset.univ : Finset (Fin 2 × Fin 2)), p ≠ p' → Disjoint (qSet p.1.val p.2.val) (qSet p'.1.val p'.2.val) := by
    intro p _ p' _ hne
    refine Finset.disjoint_left.mpr fun i hi hi' => hne ?_
    rw [mem_qSet] at hi hi'
    exact Prod.ext (Fin.ext (hi.1.symm.trans hi'.1)) (Fin.ext (hi.2.symm.trans hi'.2))
  have e : (((c : Thread nD τ).loc cc0_scratch1) ↦[(Finset.univ : Finset S1024x2048.Idx)]{fullShare} f : sProp 𝕄)
      = bigSep Finset.univ fun p : Fin 2 × Fin 2 => qPts c p.1.val p.2.val f := by
    rw [hu]
    exact pointsTo_biUnion _ _ hd
  refine e.trans ?_
  rw [bigSep_univ_eq_bigSepL [(0, 0), (0, 1), (1, 0), (1, 1)] (by decide) (by decide)]
  rfl

/-- The two staging slots are disjoint. -/
theorem gSet_disj : Disjoint (gSet 0) (gSet 1) :=
  Finset.disjoint_left.mpr fun i hi hi' => by rw [mem_gSet] at hi hi'; omega
/-- The two staging slots are the whole staging buffer. -/
theorem gSet_union : gSet 0 ∪ gSet 1 = (Finset.univ : Finset S2x4096x256.Idx) := by
  ext i
  have h0 : (i 0).val < 2 := (i 0).isLt
  simp only [Finset.mem_univ, Finset.mem_union, mem_gSet, iff_true]
  omega

omit [FloatOps F] in
/-- The staging buffer in its two slots. -/
theorem slots_split (c : Dev nD) (f : S2x4096x256.Idx → Elt F .f32) :
    (((c : Thread nD τ).loc cc0_scratch3) ↦{fullShare} f : sProp 𝕄) ⊢ iprop(gPts c 0 f ∗ gPts c 1 f) := by
  have e : (((c : Thread nD τ).loc cc0_scratch3) ↦[(Finset.univ : Finset S2x4096x256.Idx)]{fullShare} f : sProp 𝕄) ⊢ iprop(gPts c 0 f ∗ gPts c 1 f) := by
    rw [← gSet_union]; unfold gPts; exact (pointsTo_union gSet_disj).1
  exact e

omit [FloatOps F] in
/-- Two disjoint regions at whatever contents are their union at some. -/
theorem ex_join {ℓ : Loc nD τ sig} {I J : Finset (Idx ℓ)} (h : Disjoint I J) :
    iprop((∃ f : Buf (Elt F) ℓ, (ℓ ↦[I]{fullShare} f)) ∗ (∃ f : Buf (Elt F) ℓ, (ℓ ↦[J]{fullShare} f)) : sProp 𝕄)
      ⊢ iprop(∃ f : Buf (Elt F) ℓ, (ℓ ↦[I ∪ J]{fullShare} f)) := by
  iintro ⟨⟨%f, H0⟩, ⟨%g, H1⟩⟩
  have hj := pointsTo_join (Val := Elt F) (Ix := Unit) (Name := ℕ) (U := UU) (Lvl := ℕ) (ℓ := ℓ) (q := fullShare) (f := f) (g := g) h
  ihave H := hj $$ [H0 H1]
  · isplitl [H0] <;> iassumption
  iexists _; iexact H

omit [FloatOps F] in
/-- The two staging slots, put together. -/
theorem slots_join (c : Dev nD) :
    iprop((∃ f, gPts c 0 f) ∗ (∃ f, gPts c 1 f) : sProp 𝕄) ⊢ iprop(∃ f, (((c : Thread nD τ).loc cc0_scratch3) ↦{fullShare} (f : S2x4096x256.Idx → Elt F .f32))) := by
  unfold gPts
  have h := ex_join (F := F) (ℓ := (c : Thread nD τ).loc cc0_scratch3) (I := gSet 0) (J := gSet 1) gSet_disj
  rw [gSet_union] at h
  exact h

omit [FloatOps F] in
/-- The four quadrants of the accumulator, put together. -/
theorem acc_join (c : Dev nD) :
    iprop(((∃ f, qPts c 0 0 f) ∗ (∃ f, qPts c 1 0 f)) ∗ ((∃ f, qPts c 0 1 f) ∗ (∃ f, qPts c 1 1 f)) : sProp 𝕄)
      ⊢ iprop(∃ f, (((c : Thread nD τ).loc cc0_scratch1) ↦{fullShare} (f : S1024x2048.Idx → Elt F .bf16))) := by
  unfold qPts
  have hu : (qSet 0 0 ∪ qSet 1 0) ∪ (qSet 0 1 ∪ qSet 1 1) = (Finset.univ : Finset S1024x2048.Idx) := by
    ext i
    have h0 : (i 0).val < 1024 := (i 0).isLt
    have h1 : (i 1).val < 2048 := (i 1).isLt
    simp only [Finset.mem_univ, Finset.mem_union, mem_qSet, iff_true]
    omega
  have hd : Disjoint (qSet 0 0 ∪ qSet 1 0) (qSet 0 1 ∪ qSet 1 1) :=
    Finset.disjoint_left.mpr fun i hi hi' => by
      simp only [Finset.mem_union, mem_qSet] at hi hi'; omega
  have h0 := ex_join (F := F) (ℓ := (c : Thread nD τ).loc cc0_scratch1) (I := qSet 0 0) (J := qSet 1 0) (qSet_disj 0)
  have h1 := ex_join (F := F) (ℓ := (c : Thread nD τ).loc cc0_scratch1) (I := qSet 0 1) (J := qSet 1 1) (qSet_disj 1)
  have h := ex_join (F := F) (ℓ := (c : Thread nD τ).loc cc0_scratch1) (I := qSet 0 0 ∪ qSet 1 0) (J := qSet 0 1 ∪ qSet 1 1) hd
  rw [hu] at h
  iintro ⟨HA, HB⟩
  ihave HA := h0 $$ HA
  ihave HB := h1 $$ HB
  iapply h
  isplitl [HA]; · iexact HA
  iexact HB

/-! ## A lane at its start and at its end -/

omit [FloatOps F] in
/-- There are four levels. -/
theorem lvlOf_lt (d o : ℕ) (c : Dev nD) : (lvlOf d o c).val < 4 := (lvlOf d o c).isLt

/-- A lane of the result before any unit: nothing is said of its contents. -/
theorem lane_start (c : Dev nD) (d nh : ℕ) (f : S4096x2048.Idx → Elt F .bf16) :
    (((c : Thread nD τ).loc main_v1) ↦[lSet d nh]{fullShare} f : sProp 𝕄) ⊢ lanePts m c d nh 0 := by
  unfold lanePts
  iintro H
  iexists f
  isplitr; · ipureintro; exact fun i _ h => absurd h (Nat.not_lt_zero _)
  iexact H
/-- A lane of the result after all four levels: it holds the result. -/
theorem lane_end (c : Dev nD) (d nh : ℕ) :
    lanePts m c d nh 4 ⊢ (((c : Thread nD τ).loc main_v1) ↦[lSet d nh]{fullShare} (outA m c) : sProp 𝕄) := by
  unfold lanePts
  iintro ⟨%g, %hg, H⟩
  iapply (Entails.of_eq (pointsTo_congr (f := g) (g := outA m c) fun i hi => hg i hi (lvlOf_lt _ _ c))); iexact H

/-- The local semaphores at zero. -/
def lsems (c : Dev nD) : sProp 𝕄 :=
  iprop((semVal ((c : Thread nD τ), SemLoc.dma (gS 0)) 0 ∗ semVal ((c : Thread nD τ), SemLoc.dma (gS 1)) 0)
    ∗ semVal ((c : Thread nD τ), SemLoc.dma (uS 0 0)) 0 ∗ semVal ((c : Thread nD τ), SemLoc.dma (uS 0 1)) 0
    ∗ semVal ((c : Thread nD τ), SemLoc.dma (uS 1 0)) 0 ∗ semVal ((c : Thread nD τ), SemLoc.dma (uS 1 1)) 0)

/-- The buffers as the launch deals them. -/
def bufs (c : Dev nD) : sProp 𝕄 :=
  iprop((∃ f : S4x1024x4096.Idx → Elt F .fp8e4m3, (((c : Thread nD τ).loc cc0_scratch0) ↦{fullShare} f))
    ∗ (∃ f : S1024x2048.Idx → Elt F .bf16, (((c : Thread nD τ).loc cc0_scratch1) ↦{fullShare} f))
    ∗ (∃ f : S4096x2048.Idx → Elt F .fp8e4m3, (((c : Thread nD τ).loc cc0_scratch2) ↦{fullShare} f))
    ∗ (∃ f : S2x4096x256.Idx → Elt F .f32, (((c : Thread nD τ).loc cc0_scratch3) ↦{fullShare} f)))

/-- THE BUFFERS TAKEN APART. -/
theorem bufs_in (c : Dev nD) (V : S4096x2048.Idx → Elt F .bf16) :
    iprop(bufs c ∗ (((c : Thread nD τ).loc main_arg1) ↦{fullShare} (wA m c)) ∗ (((c : Thread nD τ).loc main_v1) ↦{fullShare} V) ∗ lsems c)
      ⊢ iprop((landing c 0 ∗ landing c 1 ∗ (∃ f, cPts c 0 0 fullShare f) ∗ (∃ f, cPts c 0 1 fullShare f))
        ∗ (wIdle m c 0 ∗ wIdle m c 1 ∗ ∃ f : S4096x2048.Idx → Elt F .fp8e4m3, ((c : Thread nD τ).loc cc0_scratch2) ↦{fullShare} f)
        ∗ (uIdle m c 0 0 0 ∗ uIdle m c 1 0 0) ∗ uIdle m c 0 1 0 ∗ uIdle m c 1 1 0) := by
  have hw : (((c : Thread nD τ).loc main_arg1) ↦{fullShare} (wA m c) : sProp 𝕄) ⊢ iprop(wPts m c Finset.univ (shr 0) ∗ wPts m c Finset.univ (shr 1)) := by
    unfold wPts; exact (pointsTo_share (PosShare.mem_left_op_right fullShare)).1
  unfold bufs lsems wIdle uIdle landing
  iintro ⟨⟨⟨%f0, Hc⟩, ⟨%f1, Ha⟩, H8, ⟨%f3, Hg⟩⟩, Hw, Ho, ⟨Hg0, Hg1⟩, Hu00, Hu01, Hu10, Hu11⟩
  ihave Hc := (Entails.of_eq (comm_split c f0)) $$ Hc
  icases Hc with ⟨H00, H01, H10, H11, H20, H21, H30, H31⟩
  ihave Ha := (Entails.of_eq (acc_split c f1)) $$ Ha
  icases Ha with ⟨Ha00, Ha01, Ha10, Ha11⟩
  ihave Ho := (Entails.of_eq (out_split c V)) $$ Ho
  icases Ho with ⟨Ho00, Ho01, Ho10, Ho11⟩
  ihave Hg := (slots_split c f3) $$ Hg
  icases Hg with ⟨Hs0, Hs1⟩
  ihave Hw := hw $$ Hw
  icases Hw with ⟨Hw0, Hw1⟩
  isplitl [H00 H01 H10 H11 H20 H21 H30 H31]
  · isplitl [H10 H20 H30]
    · iexists f0
      isplitl [H10]; · iexact H10
      isplitl [H20]; · iexact H20
      iexact H30
    isplitl [H11 H21 H31]
    · iexists f0
      isplitl [H11]; · iexact H11
      isplitl [H21]; · iexact H21
      iexact H31
    isplitl [H00]; · iexists f0; iexact H00
    iexists f0; iexact H01
  isplitl [Hs0 Hs1 Hg0 Hg1 Hw0 Hw1 H8]
  · isplitl [Hg0 Hs0 Hw0]
    · isplitl [Hg0]; · iexact Hg0
      isplitl [Hs0]; · iexists f3; iexact Hs0
      iexact Hw0
    isplitl [Hg1 Hs1 Hw1]
    · isplitl [Hg1]; · iexact Hg1
      isplitl [Hs1]; · iexists f3; iexact Hs1
      iexact Hw1
    iexact H8
  isplitl [Hu00 Ho00 Ha00 Hu10 Ho10 Ha10]
  · isplitl [Hu00 Ho00 Ha00]
    · isplitl [Hu00]; · iexact Hu00
      isplitl [Ho00]; · iapply (lane_start m c 0 0 V); iexact Ho00
      iexists f1; iexact Ha00
    isplitl [Hu10]; · iexact Hu10
    isplitl [Ho10]; · iapply (lane_start m c 1 0 V); iexact Ho10
    iexists f1; iexact Ha10
  isplitl [Hu01 Ho01 Ha01]
  · isplitl [Hu01]; · iexact Hu01
    isplitl [Ho01]; · iapply (lane_start m c 0 1 V); iexact Ho01
    iexists f1; iexact Ha01
  isplitl [Hu11]; · iexact Hu11
  isplitl [Ho11]; · iapply (lane_start m c 1 1 V); iexact Ho11
  iexists f1; iexact Ha11

/-- The left shares the send waits gave back. -/
def lefts (c : Dev nD) : sProp 𝕄 :=
  iprop(cPts c 0 0 fullShare.left (commA m c) ∗ cPts c 0 1 fullShare.left (commA m c) ∗ cPts c 1 0 fullShare.left (commA m c)
    ∗ cPts c 1 1 fullShare.left (commA m c) ∗ cPts c 2 0 fullShare.left (commA m c) ∗ cPts c 2 1 fullShare.left (commA m c))

/-- THE BUFFERS PUT TOGETHER: the weight unchanged, the result whole. -/
theorem bufs_out (c : Dev nD) :
    iprop(lefts m c ∗ (levs m c ∗ cPts c 2 0 fullShare.right (commA m c) ∗ cPts c 2 1 fullShare.right (commA m c)
          ∗ cPts c 3 0 fullShare (commA m c) ∗ cPts c 3 1 fullShare (commA m c))
        ∗ (wIdle m c 0 ∗ wIdle m c 1 ∗ (((c : Thread nD τ).loc cc0_scratch2) ↦{fullShare} w8A m c))
        ∗ (uIdle m c 0 0 4 ∗ uIdle m c 1 0 4) ∗ uIdle m c 0 1 4 ∗ uIdle m c 1 1 4)
      ⊢ iprop(bufs c ∗ (((c : Thread nD τ).loc main_arg1) ↦{fullShare} (wA m c)) ∗ (((c : Thread nD τ).loc main_v1) ↦{fullShare} (outA m c)) ∗ lsems c) := by
  have hw : iprop(wPts m c Finset.univ (shr 0) ∗ wPts m c Finset.univ (shr 1)) ⊢ (((c : Thread nD τ).loc main_arg1) ↦{fullShare} (wA m c) : sProp 𝕄) := by
    unfold wPts; exact (pointsTo_share (PosShare.mem_left_op_right fullShare)).2
  have hc : ∀ h d, iprop(cPts c h d fullShare.left (commA m c) ∗ cPts c h d fullShare.right (commA m c)) ⊢ cPts c h d fullShare (commA m c) :=
    fun h d => (cPts_share c h d (commA m c)).2
  unfold bufs lsems wIdle uIdle lefts levs
  iintro ⟨⟨L00, L01, L10, L11, L20, L21⟩, ⟨⟨R00, R01, R10, R11⟩, R20, R21, F30, F31⟩, ⟨⟨Hg0, Hs0, Hw0⟩, ⟨Hg1, Hs1, Hw1⟩, H8⟩,
    ⟨⟨Hu00, Ho00, Ha00⟩, ⟨Hu10, Ho10, Ha10⟩⟩, ⟨Hu01, Ho01, Ha01⟩, ⟨Hu11, Ho11, Ha11⟩⟩
  isplitl [L00 L01 L10 L11 L20 L21 R00 R01 R10 R11 R20 R21 F30 F31 H8 Hs0 Hs1 Ha00 Ha01 Ha10 Ha11]
  · isplitl [L00 L01 L10 L11 L20 L21 R00 R01 R10 R11 R20 R21 F30 F31]
    · iexists (commA m c)
      iapply (Entails.of_eq (comm_split c (commA m c)).symm)
      isplitl [L00 R00]; · iapply (hc 0 0); isplitl [L00]; · iexact L00
                           iexact R00
      isplitl [L01 R01]; · iapply (hc 0 1); isplitl [L01]; · iexact L01
                           iexact R01
      isplitl [L10 R10]; · iapply (hc 1 0); isplitl [L10]; · iexact L10
                           iexact R10
      isplitl [L11 R11]; · iapply (hc 1 1); isplitl [L11]; · iexact L11
                           iexact R11
      isplitl [L20 R20]; · iapply (hc 2 0); isplitl [L20]; · iexact L20
                           iexact R20
      isplitl [L21 R21]; · iapply (hc 2 1); isplitl [L21]; · iexact L21
                           iexact R21
      isplitl [F30]; · iexact F30
      iexact F31
    isplitl [Ha00 Ha01 Ha10 Ha11]
    · iapply (acc_join c)
      isplitl [Ha00 Ha10]
      · isplitl [Ha00]; · iexact Ha00
        iexact Ha10
      isplitl [Ha01]; · iexact Ha01
      iexact Ha11
    isplitl [H8]; · iexists (w8A m c); iexact H8
    iapply (slots_join c)
    isplitl [Hs0]; · iexact Hs0
    iexact Hs1
  isplitl [Hw0 Hw1]
  · iapply hw
    isplitl [Hw0]; · iexact Hw0
    iexact Hw1
  isplitl [Ho00 Ho01 Ho10 Ho11]
  · iapply (Entails.of_eq (out_split c (outA m c)).symm)
    isplitl [Ho00]; · iapply (lane_end m c 0 0); iexact Ho00
    isplitl [Ho01]; · iapply (lane_end m c 0 1); iexact Ho01
    isplitl [Ho10]; · iapply (lane_end m c 1 0); iexact Ho10
    iapply (lane_end m c 1 1); iexact Ho11
  isplitl [Hg0 Hg1]
  · isplitl [Hg0]; · iexact Hg0
    iexact Hg1
  isplitl [Hu00]; · iexact Hu00
  isplitl [Hu01]; · iexact Hu01
  isplitl [Hu10]; · iexact Hu10
  iexact Hu11

end Cert.RingMM

end
-- ==== Proof.Ghost.lean ====
/-
# The ghost state the launch deals
-/
module

public import proofs.«01_k».proof.Proof.Regions

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 18 → SemLoc sig := fun k => .dma ⟨3 + k.val, by show _ < 21; omega⟩

/-- The thirteen semaphores of the protocol are distinct. -/
theorem csem_injective : Function.Injective csem := by decide

/-- The protocol's cells, over all devices, are distinct. -/
theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- The duty tokens of a device's own cells: each cell's `false`, then the barrier's `true`. -/
def tkCell (j : Fin 14) : Fin 13 := if h : j.val < 13 then ⟨j.val, h⟩ else 12
def tkDuty (j : Fin 14) : Bool := decide (j.val = 13)
/-- A device's fourteen duties are told apart by their cell and their payer. -/
theorem tk_injective : ∀ j j' : Fin 14, tkCell j = tkCell j' → tkDuty j = tkDuty j' → j = j' := by decide
abbrev tokOf (cj : Dev nD × Fin 14) : GSem nD τ sig × ℕ × Bool := (kcell (cj.1, tkCell cj.2), 0, tkDuty cj.2)
/-- The duties of all devices are distinct. -/
theorem tokOf_injective : Function.Injective (tokOf : Dev nD × Fin 14 → GSem nD τ sig × ℕ × Bool) := by
  rintro ⟨c, j⟩ ⟨c', j'⟩ h
  have h1 := kcell_injective (congrArg Prod.fst h)
  have h2 : tkDuty j = tkDuty j' := congrArg (fun x : GSem nD τ sig × ℕ × Bool => x.2.2) h
  have h3 : c = c' := congrArg Prod.fst h1
  have h4 : tkCell j = tkCell j' := congrArg Prod.snd h1
  rw [h3, tk_injective j j' h4 h2]
def ringToks : Finset (GSem nD τ sig × ℕ × Bool) := Finset.univ.map ⟨tokOf, tokOf_injective⟩

/-- The launch's element. -/
def u₀ : UU :=
  (initOf (Pipeline.cells cfgs cellOf_inj) (Pipeline.launchToks cfgs cellOf_inj), (initOf ringCells ringToks, 1))

def toks (c : Dev nD) : sProp 𝕄 := bigSep Finset.univ fun j : Fin 14 => dutyTok ER (kcell (c, tkCell j)) 0 (tkDuty j)

/-- What the launch's element deals device `c`. -/
def G (c : Dev nD) : sProp 𝕄 :=
  iprop((bigSep Finset.univ fun k : Fin 13 => roundState ER (rd m) (kcell (c, k)) 0)
    ∗ (bigSep Finset.univ fun k : Fin 13 => iprop(atPos ER (kcell (c, k)) 0 ∅ 0 ∗ reached ER (kcell (c, k)) 0)) ∗ toks c)

omit [FloatOps F] in
/-- A separating product over thirteen places, written out. -/
theorem bigSep13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
/-- A separating product over fourteen places, written out. -/
theorem bigSep14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The protocol's ghost element deals every device its cells, positions and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The eighteen DMA semaphores of the kernel, one by one. -/
theorem ownSems0_eq (c : Dev nD) : (Pipeline.ownSems0 (Ix := Unit) (Name := ℕ) (U := UU) (Lvl := ℕ) (Val := Elt F) (τ := τ) osem c : sProp 𝕄)
    = iprop(semVal (sCell c 0 0) 0 ∗ semVal (sCell c 0 1) 0 ∗ semVal (sCell c 0 2) 0 ∗ semVal (sCell c 1 0) 0 ∗ semVal (sCell c 1 1) 0 ∗ semVal (sCell c 1 2) 0
      ∗ semVal (vCell c 0 0) 0 ∗ semVal (vCell c 0 1) 0 ∗ semVal (vCell c 0 2) 0 ∗ semVal (vCell c 1 0) 0 ∗ semVal (vCell c 1 1) 0 ∗ semVal (vCell c 1 2) 0
      ∗ semVal ((c : Thread nD τ), SemLoc.dma (gS 0)) 0 ∗ semVal ((c : Thread nD τ), SemLoc.dma (gS 1)) 0
      ∗ semVal ((c : Thread nD τ), SemLoc.dma (uS 0 0)) 0 ∗ semVal ((c : Thread nD τ), SemLoc.dma (uS 0 1)) 0
      ∗ semVal ((c : Thread nD τ), SemLoc.dma (uS 1 0)) 0 ∗ semVal ((c : Thread nD τ), SemLoc.dma (uS 1 1)) 0) := by
  rw [Pipeline.ownSems0_eq_of_list c osem [0, 1, 2, 3, 4, 5, 6, 7, 8, 9, 10, 11, 12, 13, 14, 15, 16, 17] (by decide) (by decide)]; rfl
omit [FloatOps F] in
/-- The one semaphore that is not scoped to the launch is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The thirteen cells' semaphores at zero. -/
def csems (c : Dev nD) : sProp 𝕄 := bigSep Finset.univ fun k : Fin 13 => semVal (kcell (c, k)) 0

omit [FloatOps F] in
/-- The counters of the protocol's thirteen cells, written out. -/
theorem csems_eq (c : Dev nD) : (csems c : sProp 𝕄)
    = iprop(semVal (sCell c 0 0) 0 ∗ semVal (sCell c 0 1) 0 ∗ semVal (sCell c 0 2) 0 ∗ semVal (sCell c 1 0) 0 ∗ semVal (sCell c 1 1) 0 ∗ semVal (sCell c 1 2) 0
      ∗ semVal (vCell c 0 0) 0 ∗ semVal (vCell c 0 1) 0 ∗ semVal (vCell c 0 2) 0 ∗ semVal (vCell c 1 0) 0 ∗ semVal (vCell c 1 1) 0 ∗ semVal (vCell c 1 2) 0
      ∗ semVal (barCell c) 0) := by
  unfold csems; rw [bigSep13]; rfl

omit [FloatOps F] in
/-- The counters the launch gives, sorted into the protocol's and the local copies'. -/
theorem sems0_split (c : Dev nD) :
    iprop(Pipeline.ownSems0 (Ix := Unit) (Name := ℕ) (U := UU) (Lvl := ℕ) (Val := Elt F) (τ := τ) osem c ∗ unscopedSems0 c)
      ⊢ iprop(csems c ∗ lsems c : sProp 𝕄) := by
  rw [ownSems0_eq, unscopedSems0_eq, csems_eq]
  unfold lsems
  iintro ⟨⟨H0, H1, H2, H3, H4, H5, H6, H7, H8, H9, Ha, Hb, Hg0, Hg1, Hu⟩, HB⟩
  isplitl [H0 H1 H2 H3 H4 H5 H6 H7 H8 H9 Ha Hb HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha]; · iexact Ha
    isplitl [Hb]; · iexact Hb
    iexact HB
  isplitl [Hg0 Hg1]
  · isplitl [Hg0]; · iexact Hg0
    iexact Hg1
  iexact Hu

omit [FloatOps F] in
/-- The converse: the sorted counters are what the launch takes back. -/
theorem sems0_join (c : Dev nD) :
    iprop(csems c ∗ lsems c : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, csems_eq]
  unfold lsems
  iintro ⟨⟨H0, H1, H2, H3, H4, H5, H6, H7, H8, H9, Ha, Hb, HB⟩, ⟨Hg0, Hg1⟩, Hu⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  isplitl [Hb]; · iexact Hb
  isplitl [Hg0]; · iexact Hg0
  isplitl [Hg1]; · iexact Hg1
  iexact Hu

omit [FloatOps F] in
/-- A device's cells allocated, its local semaphores kept. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ lsems c) := by
  unfold G
  iintro ⟨Hos, Hus, Hst, Hat, Htok⟩
  ihave Hv := (sems0_split (F := F) c) $$ [Hos Hus]
  · isplitl [Hos] <;> iassumption
  icases Hv with ⟨Hv, Hl⟩
  imod (show iprop(csems c ∗ bigSep Finset.univ fun k : Fin 13 => roundState ER (rd m) (kcell (c, k)) 0)
      ⊢ (|={Set.univ}=> bigSep Finset.univ fun k => iprop(∃ κ : ℕ, cellInv ER (rd m) κ (kcell (c, k))) : sProp 𝕄) from by
        unfold csems
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## What each device holds -/

/-- The ring's step up. -/
def up : Dev nD ≃ Dev nD := ⟨tgt 0, tgt 1, tgt_one_zero, tgt_zero_one⟩

/-- The duty tokens of the duties device `c` pays. -/
def payToks (c : Dev nD) : sProp 𝕄 :=
  iprop((dutyTok ER (sCell c 0 0) 0 false ∗ dutyTok ER (sCell c 0 1) 0 false ∗ dutyTok ER (sCell c 0 2) 0 false
      ∗ dutyTok ER (sCell c 1 0) 0 false ∗ dutyTok ER (sCell c 1 1) 0 false ∗ dutyTok ER (sCell c 1 2) 0 false)
    ∗ (dutyTok ER (vCell (tgt 0 c) 0 0) 0 false ∗ dutyTok ER (vCell (tgt 0 c) 0 1) 0 false ∗ dutyTok ER (vCell (tgt 0 c) 0 2) 0 false)
    ∗ (dutyTok ER (vCell (tgt 1 c) 1 0) 0 false ∗ dutyTok ER (vCell (tgt 1 c) 1 1) 0 false ∗ dutyTok ER (vCell (tgt 1 c) 1 2) 0 false)
    ∗ dutyTok ER (barCell (tgt 0 c)) 0 false ∗ dutyTok ER (barCell (tgt 1 c)) 0 true)

omit [FloatOps F] in
/-- A device's fourteen duty tokens, written out. -/
theorem toks_eq (c : Dev nD) : (toks c : sProp 𝕄)
    = iprop(dutyTok ER (sCell c 0 0) 0 false ∗ dutyTok ER (sCell c 0 1) 0 false ∗ dutyTok ER (sCell c 0 2) 0 false
      ∗ dutyTok ER (sCell c 1 0) 0 false ∗ dutyTok ER (sCell c 1 1) 0 false ∗ dutyTok ER (sCell c 1 2) 0 false
      ∗ dutyTok ER (vCell c 0 0) 0 false ∗ dutyTok ER (vCell c 0 1) 0 false ∗ dutyTok ER (vCell c 0 2) 0 false
      ∗ dutyTok ER (vCell c 1 0) 0 false ∗ dutyTok ER (vCell c 1 1) 0 false ∗ dutyTok ER (vCell c 1 2) 0 false
      ∗ dutyTok ER (barCell c) 0 false ∗ dutyTok ER (barCell c) 0 true) := by
  unfold toks; rw [bigSep14]; rfl

omit [FloatOps F] in
/-- The tokens dealt around the ring to the devices that pay them. -/
theorem toks_around : (bigSep Finset.univ fun c : Dev nD => (toks c : sProp 𝕄)) ⊢ bigSep Finset.univ fun c : Dev nD => payToks c := by
  have hu (Φ : Dev nD → sProp 𝕄) : bigSep Finset.univ Φ = bigSep Finset.univ fun c : Dev nD => Φ (tgt 0 c) := bigSep_univ_equiv up Φ
  have hd (Φ : Dev nD → sProp 𝕄) : bigSep Finset.univ Φ = bigSep Finset.univ fun c : Dev nD => Φ (tgt 1 c) := bigSep_univ_equiv up.symm Φ
  simp only [toks_eq]
  unfold payToks
  simp only [bigSep_sep']
  iintro ⟨H0, H1, H2, H3, H4, H5, H6, H7, H8, H9, Ha, Hb, Hf, Ht⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H7 H8]
  · isplitl [H6]; · iapply (Entails.of_eq (hu fun c => (dutyTok ER (vCell c 0 0) 0 false : sProp 𝕄))); iexact H6
    isplitl [H7]; · iapply (Entails.of_eq (hu fun c => (dutyTok ER (vCell c 0 1) 0 false : sProp 𝕄))); iexact H7
    iapply (Entails.of_eq (hu fun c => (dutyTok ER (vCell c 0 2) 0 false : sProp 𝕄))); iexact H8
  isplitl [H9 Ha Hb]
  · isplitl [H9]; · iapply (Entails.of_eq (hd fun c => (dutyTok ER (vCell c 1 0) 0 false : sProp 𝕄))); iexact H9
    isplitl [Ha]; · iapply (Entails.of_eq (hd fun c => (dutyTok ER (vCell c 1 1) 0 false : sProp 𝕄))); iexact Ha
    iapply (Entails.of_eq (hd fun c => (dutyTok ER (vCell c 1 2) 0 false : sProp 𝕄))); iexact Hb
  isplitl [Hf]; · iapply (Entails.of_eq (hu fun c => (dutyTok ER (barCell c) 0 false : sProp 𝕄))); iexact Hf
  iapply (Entails.of_eq (hd fun c => (dutyTok ER (barCell c) 0 true : sProp 𝕄))); iexact Ht

/-- The positions of device `c`'s cells. -/
def poss (c : Dev nD) : sProp 𝕄 := bigSep Finset.univ fun k : Fin 13 => atPos ER (kcell (c, k)) 0 ∅ 0

omit [FloatOps F] in
/-- A device's thirteen positions, written out. -/
theorem poss_eq (c : Dev nD) : (poss c : sProp 𝕄)
    = iprop(atPos ER (sCell c 0 0) 0 ∅ 0 ∗ atPos ER (sCell c 0 1) 0 ∅ 0 ∗ atPos ER (sCell c 0 2) 0 ∅ 0
      ∗ atPos ER (sCell c 1 0) 0 ∅ 0 ∗ atPos ER (sCell c 1 1) 0 ∅ 0 ∗ atPos ER (sCell c 1 2) 0 ∅ 0
      ∗ atPos ER (vCell c 0 0) 0 ∅ 0 ∗ atPos ER (vCell c 0 1) 0 ∅ 0 ∗ atPos ER (vCell c 0 2) 0 ∅ 0
      ∗ atPos ER (vCell c 1 0) 0 ∅ 0 ∗ atPos ER (vCell c 1 1) 0 ∅ 0 ∗ atPos ER (vCell c 1 2) 0 ∅ 0
      ∗ atPos ER (barCell c) 0 ∅ 0) := by
  unfold poss; rw [bigSep13]; rfl

/-- What stays with device `c` besides the records. -/
def linear (c : Dev nD) : sProp 𝕄 := iprop(poss c ∗ payToks c ∗ lsems c)
/-- What the global step makes of it. -/
def G' (c : Dev nD) : sProp 𝕄 := iprop(∃ K, records m K ∗ linear c)

omit [FloatOps F] in
/-- A persistent fact can be used at every place of a separating product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What is dealt cell by cell, regrouped by the device that uses it: each device gets the tokens of the duties it pays. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ lsems c) : sProp 𝕄)
      ⊢ bigSep Finset.univ (G' m) := by
  rw [bigSep_sep', bigSep_sep', bigSep_sep', ← bigSep_univ_prod (fun ck : Dev nD × Fin 13 => iprop(∃ κ : ℕ, cellInv ER (rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hl⟩
  ihave HK := (BI.bigSep_exists_pi Finset.univ (fun (ck : Dev nD × Fin 13) (κ : ℕ) => (cellInv ER (rd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G'
    iintro H
    iexists K; iexact H)
  isplitr
  · unfold records; isplitl; · iexact HI
    iexact HR
  · unfold linear poss
    simp only [bigSep_sep']
    isplitl [Hat]; · iexact Hat
    isplitl [Htk]; · iexact Htk
    iexact Hl

omit [FloatOps F] in
/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

omit [FloatOps F] in
/-- Barrier cells are told apart by their device. -/
theorem bar_eq_iff {a b : Dev nD} : Iff (barCell a = barCell b) (a = b) :=
  ⟨fun h => Fin.ext (congrArg (fun g : GSem nD τ sig => g.1.1.val) h), fun h => h ▸ rfl⟩
/-- Receive semaphores are told apart by their direction and hop. -/
theorem vS_inj : ∀ (d d' : Fin 2) (h h' : Fin 3), vS d h = vS d' h' → d = d' ∧ h = h' := by decide
omit [FloatOps F] in
/-- Receive cells are told apart by their device, direction and hop. -/
theorem v_eq_iff {a b : Dev nD} {d d' : Fin 2} {h h' : Fin 3} : Iff (vCell a d h = vCell b d' h') (a = b ∧ d = d' ∧ h = h') := by
  constructor
  · intro e
    have e1 : a = b := Fin.ext (congrArg (fun g : GSem nD τ sig => g.1.1.val) e)
    have e2 : SemLoc.dma (sig := sig) (vS d h) = SemLoc.dma (vS d' h') := congrArg Prod.snd e
    exact ⟨e1, vS_inj _ _ _ _ (SemLoc.dma.inj e2)⟩
  · rintro ⟨rfl, rfl, rfl⟩; rfl
/-- A receive cell is no barrier cell. -/
theorem v_ne_bar {a b : Dev nD} {d : Fin 2} {h : Fin 3} : vCell a d h ≠ barCell b := fun e => by
  have := congrArg Prod.snd e
  cases this

/-- `c` is one up from `d` just when `d` is one down from `c`. -/
theorem tgt_flip0 (c d : Dev nD) : c = tgt 0 d ↔ d = tgt 1 c := by revert c d; decide
/-- `c` is one down from `d` just when `d` is one up from `c`. -/
theorem tgt_flip1 (c d : Dev nD) : c = tgt 1 d ↔ d = tgt 0 c := by revert c d; decide

/-- The transfers still to come owe nothing to a barrier. -/
theorem rem_bar (d c : Dev nD) (k : ℕ) : rem d k (barCell c) () = 0 := by
  by_contra h
  obtain ⟨j, _, e⟩ := rem_pos (Nat.pos_of_ne_zero h)
  exact v_ne_bar e.symm

omit [FloatOps F] in
/-- At launch a device owes one unit to each neighbour's barrier. -/
theorem owed_bar (d c : Dev nD) : O₀ d (barCell c) () = (if d = tgt 1 c then 1 else 0) + (if d = tgt 0 c then 1 else 0) := by
  unfold O₀ O₁
  rw [Pi.add_apply, Finsupp.add_apply, Pi.add_apply, Finsupp.add_apply, rem_bar, tallyAt_apply, tallyAt_apply, Nat.zero_add]
  simp only [bar_eq_iff, tgt_flip0 c d, tgt_flip1 c d, and_true]

/-- At launch a device owes a half chunk's credit to each receive cell of the neighbour it sends to. -/
theorem owed_v (d c : Dev nD) (k : Fin 2) (h : Fin 3) : O₀ d (vCell c k h) () = if d = tgt (1 - k.val) c then N else 0 := by
  have hs : ∀ j, rem d (j + 1) (vCell c k h) () = rem d j (vCell c k h) () + if c = tgt (sd j).val d ∧ k = sd j ∧ h = sh j then N else 0 := by
    intro j
    show (rem d j + tallyAt (vCell (tgt (sd j).val d) (sd j) (sh j)) () N) (vCell c k h) () = _
    rw [Pi.add_apply, Finsupp.add_apply, tallyAt_apply]
    simp only [v_eq_iff, and_true]
  have hb : O₀ d (vCell c k h) () = rem d 6 (vCell c k h) () := by
    unfold O₀ O₁
    rw [Pi.add_apply, Finsupp.add_apply, Pi.add_apply, Finsupp.add_apply, tallyAt_ne_cell v_ne_bar, tallyAt_ne_cell v_ne_bar, Finsupp.zero_apply, Nat.add_zero, Nat.add_zero]
  have h0 : rem d 0 (vCell c k h) () = 0 := rfl
  rw [hb, hs, hs, hs, hs, hs, hs, h0]
  have key : ∀ (d c : Dev nD) (k : Fin 2) (h : Fin 3), ∃ j : Fin 6, (∀ i : Fin 6, (c = tgt (sd i.val).val d ∧ k = sd i.val ∧ h = sh i.val) ↔ (i = j ∧ d = tgt (1 - k.val) c)) := by decide
  obtain ⟨j, hj⟩ := key d c k h
  have t0 := hj 0; have t1 := hj 1; have t2 := hj 2; have t3 := hj 3; have t4 := hj 4; have t5 := hj 5
  simp only [Fin.val_zero, Fin.val_one, show ((2 : Fin 6)).val = 2 from rfl, show ((3 : Fin 6)).val = 3 from rfl, show ((4 : Fin 6)).val = 4 from rfl, show ((5 : Fin 6)).val = 5 from rfl] at t0 t1 t2 t3 t4 t5
  simp only [t0, t1, t2, t3, t4, t5]
  by_cases e : d = tgt (1 - k.val) c
  · simp only [e, and_true, if_true]
    fin_cases j <;> simp
  · simp only [e, and_false, if_false]

omit [FloatOps F] in
/-- Two units in all are owed to a barrier. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt 1 c) fun _ => 1, Finset.sum_ite_eq' Finset.univ (tgt 0 c) fun _ => 1, if_pos (Finset.mem_univ _), if_pos (Finset.mem_univ _)]
/-- One half chunk's credit in all is owed to a receive cell. -/
theorem launch_v (c : Dev nD) (k : Fin 2) (h : Fin 3) :
    tallyOn (vCell c k h) (launchCredit (Pipeline.owing O₀) 0 (vCell c k h)) = (tallyAt (vCell c k h) () N : CellTallies nD τ sig Unit) := by
  unfold tallyAt; refine congrArg _ (Finsupp.ext fun u => ?_); cases u
  rw [Pipeline.launchCredit_owing, Finsupp.single_eq_same, Finset.sum_congr rfl fun d _ => owed_v d c k h,
    Finset.sum_ite_eq' Finset.univ (tgt (1 - k.val) c) fun _ => N, if_pos (Finset.mem_univ _)]

/-- The credits the launch gives device `c`: its barrier's two, its six landings'. -/
def credits (c : Dev nD) : sProp 𝕄 :=
  iprop(cred (tallyAt (barCell c) () 2) ∗ cred (tallyAt (vCell c 0 0) () N) ∗ cred (tallyAt (vCell c 1 0) () N) ∗ cred (tallyAt (vCell c 0 1) () N)
    ∗ cred (tallyAt (vCell c 1 1) () N) ∗ cred (tallyAt (vCell c 0 2) () N) ∗ cred (tallyAt (vCell c 1 2) () N))

omit [FloatOps F] in
/-- The launch's credits on a device, as the body takes them. -/
theorem creds (c : Dev nD) : (Pipeline.launchCred O₀ c : sProp 𝕄) ⊢ credits c := by
  unfold Pipeline.launchCred credits
  refine BIBase.Entails.trans (bigSep_subset (s := Finset.univ) (t := [SemLoc.reg barS, .dma (vS 0 0), .dma (vS 1 0), .dma (vS 0 1), .dma (vS 1 1), .dma (vS 0 2), .dma (vS 1 2)].toFinset) (Finset.subset_univ _)) ?_
  rw [bigSep_eq_bigSepL_of_eq [SemLoc.reg barS, .dma (vS 0 0), .dma (vS 1 0), .dma (vS 0 1), .dma (vS 1 1), .dma (vS 0 2), .dma (vS 1 2)] rfl (by decide),
    ← launch_bar, ← launch_v, ← launch_v, ← launch_v, ← launch_v, ← launch_v, ← launch_v]
  exact Entails.of_eq rfl

end Cert.RingMM

end
-- ==== Proof.Launch.lean ====
/-
# The launch
-/
module

public import proofs.«01_k».proof.Proof.Ghost
public import Idealize.ShloMosaic.Lib.Pipeline.CollectiveSegs

@[expose] public section

noncomputable section

namespace Cert.RingMM

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells closed -/

omit [FloatOps F] in
/-- A send cell whose round is over gives its counter back at zero. -/
theorem close_s (K : Dev nD × Fin 13 → ℕ) (c : Dev nD) (d : Fin 2) (h : Fin 3) :
    iprop(records m K ∗ atPos ER (sCell c d h) (0 + 1) ∅ 0) ⊢ |={Set.univ}=> (semVal (sCell c d h) 0 : sProp 𝕄) := by
  iintro ⟨#HR, Hat⟩
  imod (Rounds.cell_close ER (rd m) (Set.mem_univ (K (c, sIx d h))) (fun h => h) (R := 0 + 1) (duties_later m (sCell c d h))) $$ [Hat] with Hz
  · isplitr; · iapply (inv_s m K c d h); iexact HR
    iexact Hat
  imodintro; iexact Hz
omit [FloatOps F] in
/-- A receive cell whose round is over gives its counter back at zero. -/
theorem close_v (K : Dev nD × Fin 13 → ℕ) (c : Dev nD) (d : Fin 2) (h : Fin 3) :
    iprop(records m K ∗ atPos ER (vCell c d h) (0 + 1) ∅ 0) ⊢ |={Set.univ}=> (semVal (vCell c d h) 0 : sProp 𝕄) := by
  iintro ⟨#HR, Hat⟩
  imod (Rounds.cell_close ER (rd m) (Set.mem_univ (K (c, vIx d h))) (fun h => h) (R := 0 + 1) (duties_later m (vCell c d h))) $$ [Hat] with Hz
  · isplitr; · iapply (inv_v m K c d h); iexact HR
    iexact Hat
  imodintro; iexact Hz
omit [FloatOps F] in
/-- A barrier cell whose round is over gives its counter back at zero. -/
theorem close_bar (K : Dev nD × Fin 13 → ℕ) (c : Dev nD) :
    iprop(records m K ∗ atPos ER (barCell c) (0 + 1) ∅ 0) ⊢ |={Set.univ}=> (semVal (barCell c) 0 : sProp 𝕄) := by
  iintro ⟨#HR, Hat⟩
  imod (Rounds.cell_close ER (rd m) (Set.mem_univ (K (c, 12))) (fun h => h) (R := 0 + 1) (duties_later m (barCell c))) $$ [Hat] with Hz
  · isplitr; · iapply (inv_bar m K c); iexact HR
    iexact Hat
  imodintro; iexact Hz

/-! ## The region's start and end -/

/-- What a device's region starts from, besides its scratch. -/
def start (c : Dev nD) : sProp 𝕄 :=
  iprop(G' m c ∗ credits c ∗ levAts L lv ∗ (((c : Thread nD τ).loc main_arg1) ↦{fullShare} (wA m c))
    ∗ (((c : Thread nD τ).loc main_v1) ↦{fullShare} (m ((c : Thread nD τ).loc main_v1))))
def Φ₀ (c : Dev nD) : sProp 𝕄 := iprop(start m c ∗ bufs c)
/-- What it ends with: the weight unchanged, the result whole, every counter at zero. -/
def Φ₁ (c : Dev nD) : sProp 𝕄 :=
  iprop((bufs c ∗ (((c : Thread nD τ).loc main_arg1) ↦{fullShare} (wA m c)) ∗ (((c : Thread nD τ).loc main_v1) ↦{fullShare} (outA m c)) ∗ lsems c) ∗ csems c)

/-- The start, in the shape the body takes. -/
theorem start_pre (c : Dev nD) :
    iprop(Φ₀ m c ∗ owing c (O₀ c) ∗ stag m c) ⊢ iprop(∃ K, (records m K ∗ levAts L lv ∗ pre8 m c) : sProp 𝕄) := by
  unfold Φ₀ start G' linear credits
  rw [poss_eq]
  unfold payToks
  iintro ⟨⟨⟨⟨%K, #HR, ⟨Ps00, Ps01, Ps02, Ps10, Ps11, Ps12, Pv00, Pv01, Pv02, Pv10, Pv11, Pv12, Pb⟩,
      ⟨⟨Ts00, Ts01, Ts02, Ts10, Ts11, Ts12⟩, ⟨Tv00, Tv01, Tv02⟩, ⟨Tv10, Tv11, Tv12⟩, Tbf, Tbt⟩, Hl⟩,
      ⟨Cb, C00, C10, C01, C11, C02, C12⟩, #Hlev, Hw, Ho⟩, Hb⟩, HO, Hst⟩
  iexists K
  isplitr; · iexact HR
  isplitr; · iexact Hlev
  ihave Hb := (bufs_in m c (m ((c : Thread nD τ).loc main_v1))) $$ [Hb Hw Ho Hl]
  · isplitl [Hb]; · iexact Hb
    isplitl [Hw]; · iexact Hw
    isplitl [Ho]; · iexact Ho
    iexact Hl
  icases Hb with ⟨⟨L0, L1, Hc0, Hc1⟩, Hwi, Hu⟩
  unfold pre8 pre3 hopToks rcvKit
  isplitl [HO Pb Cb Tbt Tbf L0 L1 Hc0 Hc1 Hst]
  · isplitl [HO]; · iexact HO
    isplitl [Pb]; · iexact Pb
    isplitl [Cb]; · iexact Cb
    isplitl [Tbt]; · iexact Tbt
    isplitl [Tbf]; · iexact Tbf
    isplitl [L0]; · iexact L0
    isplitl [L1]; · iexact L1
    isplitl [Hc0]; · iexact Hc0
    isplitl [Hc1]; · iexact Hc1
    iexact Hst
  isplitl [Ps00 Ps01 Ps02 Ps10 Ps11 Ps12 Ts00 Ts01 Ts02 Ts10 Ts11 Ts12 Tv00 Tv01 Tv02 Tv10 Tv11 Tv12]
  · isplitl [Ts00 Tv00 Ps00]
    · isplitl [Ts00]; · iexact Ts00
      isplitl [Tv00]; · iexact Tv00
      iexact Ps00
    isplitl [Ts10 Tv10 Ps10]
    · isplitl [Ts10]; · iexact Ts10
      isplitl [Tv10]; · iexact Tv10
      iexact Ps10
    isplitl [Ts01 Tv01 Ps01]
    · isplitl [Ts01]; · iexact Ts01
      isplitl [Tv01]; · iexact Tv01
      iexact Ps01
    isplitl [Ts11 Tv11 Ps11]
    · isplitl [Ts11]; · iexact Ts11
      isplitl [Tv11]; · iexact Tv11
      iexact Ps11
    isplitl [Ts02 Tv02 Ps02]
    · isplitl [Ts02]; · iexact Ts02
      isplitl [Tv02]; · iexact Tv02
      iexact Ps02
    isplitl [Ts12]; · iexact Ts12
    isplitl [Tv12]; · iexact Tv12
    iexact Ps12
  isplitl [C00 C10 C01 C11 C02 C12 Pv00 Pv01 Pv02 Pv10 Pv11 Pv12]
  · isplitl [C00 Pv00]; · isplitl [C00] <;> iassumption
    isplitl [C10 Pv10]; · isplitl [C10] <;> iassumption
    isplitl [C01 Pv01]; · isplitl [C01] <;> iassumption
    isplitl [C11 Pv11]; · isplitl [C11] <;> iassumption
    isplitl [C02 Pv02]; · isplitl [C02] <;> iassumption
    isplitl [C12] <;> iassumption
  isplitl [Hwi]; · iexact Hwi
  iexact Hu

/-- The end, every cell closed. -/
theorem end_post (K : Dev nD × Fin 13 → ℕ) (c : Dev nD) :
    iprop(records m K ∗ post9 m c) ⊢ |={Set.univ}=> iprop(Φ₁ m c ∗ owing c (rem c 0) ∗ stag m c : sProp 𝕄) := by
  unfold post9 sent Φ₁
  rw [csems_eq]
  iintro ⟨#HR, HO, Pb, Hst, ⟨Pv00, Pv10, Pv01, Pv11, Pv02, Pv12⟩, ⟨⟨Ps00, L00⟩, ⟨Ps10, L10⟩, ⟨Ps01, L01⟩, ⟨Ps11, L11⟩, ⟨Ps02, L02⟩⟩, ⟨Ps12, L12⟩, Hx⟩
  imod (close_bar m K c) $$ [Pb] with Zb
  · isplitr; · iexact HR
    iexact Pb
  imod (close_s m K c 0 0) $$ [Ps00] with Zs00
  · isplitr; · iexact HR
    iexact Ps00
  imod (close_s m K c 0 1) $$ [Ps01] with Zs01
  · isplitr; · iexact HR
    iexact Ps01
  imod (close_s m K c 0 2) $$ [Ps02] with Zs02
  · isplitr; · iexact HR
    iexact Ps02
  imod (close_s m K c 1 0) $$ [Ps10] with Zs10
  · isplitr; · iexact HR
    iexact Ps10
  imod (close_s m K c 1 1) $$ [Ps11] with Zs11
  · isplitr; · iexact HR
    iexact Ps11
  imod (close_s m K c 1 2) $$ [Ps12] with Zs12
  · isplitr; · iexact HR
    iexact Ps12
  imod (close_v m K c 0 0) $$ [Pv00] with Zv00
  · isplitr; · iexact HR
    iexact Pv00
  imod (close_v m K c 0 1) $$ [Pv01] with Zv01
  · isplitr; · iexact HR
    iexact Pv01
  imod (close_v m K c 0 2) $$ [Pv02] with Zv02
  · isplitr; · iexact HR
    iexact Pv02
  imod (close_v m K c 1 0) $$ [Pv10] with Zv10
  · isplitr; · iexact HR
    iexact Pv10
  imod (close_v m K c 1 1) $$ [Pv11] with Zv11
  · isplitr; · iexact HR
    iexact Pv11
  imod (close_v m K c 1 2) $$ [Pv12] with Zv12
  · isplitr; · iexact HR
    iexact Pv12
  imodintro
  isplitr [HO Hst]
  · isplitl [L00 L10 L01 L11 L02 L12 Hx]
    · iapply (bufs_out m c)
      isplitr [Hx]
      · unfold lefts
        isplitl [L00]; · iexact L00
        isplitl [L10]; · iexact L10
        isplitl [L01]; · iexact L01
        isplitl [L11]; · iexact L11
        isplitl [L02]; · iexact L02
        iexact L12
      iexact Hx
    isplitl [Zs00]; · iexact Zs00
    isplitl [Zs01]; · iexact Zs01
    isplitl [Zs02]; · iexact Zs02
    isplitl [Zs10]; · iexact Zs10
    isplitl [Zs11]; · iexact Zs11
    isplitl [Zs12]; · iexact Zs12
    isplitl [Zv00]; · iexact Zv00
    isplitl [Zv01]; · iexact Zv01
    isplitl [Zv02]; · iexact Zv02
    isplitl [Zv10]; · iexact Zv10
    isplitl [Zv11]; · iexact Zv11
    isplitl [Zv12]; · iexact Zv12
    iexact Zb
  isplitl [HO]; · iexact HO
  iexact Hst

/-! ## The body obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => sxA m c
    | ⟨2, _⟩ => swA m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Owning a whole buffer at given contents is its points-to at these contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (xA m c) ∗ stg c cc0_stg1_0 (sxA m c) ∗ stg c cc0_stg2_0 (swA m c))

omit [FloatOps F] in
/-- The rows' window reads the whole of its array. -/
theorem blk_x (f : S1024x4096.Idx → Elt F .fp8e4m3) : (win0_0.blk t0_0).view.read (Elt F) f = f := by
  funext i
  refine congrArg f ?_
  funext a; refine Fin.ext ?_
  show 0 * S1024x4096.size a + 1 * (i a).val = (i a).val
  omega
omit [FloatOps F] in
/-- The first scale's window reads the whole of its array. -/
theorem blk_sx (f : S1.Idx → Elt F .f32) : (win0_1.blk t0_0).view.read (Elt F) f = f := by
  funext i
  refine congrArg f ?_
  funext a; refine Fin.ext ?_
  show 0 * S1.size a + 1 * (i a).val = (i a).val
  omega
omit [FloatOps F] in
/-- The second scale's window reads the whole of its array. -/
theorem blk_sw (f : S1.Idx → Elt F .f32) : (win0_2.blk t0_0).view.read (Elt F) f = f := by
  funext i
  refine congrArg f ?_
  funext a; refine Fin.ext ?_
  show 0 * S1.size a + 1 * (i a).val = (i a).val
  omega

/-- What the pipeline hands the body, its windows read. -/
theorem pre_read (c : Dev nD) : bodyPre m ρ c ⊢ iprop(Φ₀ m c ∗ owing c (O₀ c) ∗ stag m c) := by
  unfold bodyPre stag owing Dat.owesAt Pipeline.owesWithin
  rw [show (dats m ρ 0 c).owed t0_0.castSucc = O₀ c from rfl]
  iintro ⟨H, ⟨%W, %hW, HO⟩, ⟨%d0, %g0, %h0, H0⟩, ⟨%d1, %g1, %h1, H1⟩, ⟨%d2, %g2, %h2, H2⟩⟩
  have e0 : g0 = xA m c := by rw [h0]; unfold Dat.before; rw [if_pos (fetch0_0 t0_0)]; exact blk_x (xA m c)
  have e1 : g1 = sxA m c := by rw [h1]; unfold Dat.before; rw [if_pos (fetch0_1 t0_0)]; exact blk_sx (sxA m c)
  have e2 : g2 = swA m c := by rw [h2]; unfold Dat.before; rw [if_pos (fetch0_2 t0_0)]; exact blk_sw (swA m c)
  subst e0 e1 e2
  isplitl [H]; · iexact H
  isplitl [HO]
  · iexists W; iexact HO
  isplitl [H0]; · iexact H0
  isplitl [H1]; · iexact H1
  iexact H2

/-- What the body leaves is what the launch expects of it. -/
theorem post_write (c : Dev nD) : iprop(Φ₁ m c ∗ owing c (rem c 0) ∗ stag m c) ⊢ bodyPost m ρ c := by
  unfold bodyPost stag owing Dat.owesAt Pipeline.owesWithin
  rw [show (dats m ρ 0 c).owed t0_0.succ = 0 from rfl]
  iintro ⟨H, ⟨%W, HO⟩, H0, H1, H2⟩
  isplitl [H]; · iexact H
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
/-- The body meets its obligation to the launch. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (F := F) xM (Memref.isWhole_whole _) wM (Memref.isWhole_whole _) sxM (Memref.isWhole_whole _) swM (Memref.isWhole_whole _) oM (Memref.isWhole_whole _) cM (Memref.isWhole_whole _) aM (Memref.isWhole_whole _) eM (Memref.isWhole_whole _) gM (Memref.isWhole_whole _) cc0_scratch4 cc0_scratch5 cc0_scratch6 cc0_scratch7)
    (fun _ => bodyPost m ρ c)
  iintro H
  ihave H := (pre_read m ρ c) $$ H
  ihave H := (start_pre m c) $$ H
  icases H with ⟨%K, H⟩
  iapply (whole_body m K c fun _ => bodyPost m ρ c)
  isplitl [H]; · iexact H
  iintro H
  imod (end_post m K c) $$ H with H
  imodintro
  iapply (post_write m ρ c); iexact H

/-! ## The run -/

/-- The semaphores handed to the body are scoped to the launch and distinct. -/
theorem ownSemFacts : Pipeline.OwnSemFacts cfg0.spec osem := by decide

/-- Every window is held with the full share. -/
theorem share_eq (c : Dev nD) (w : Fin cfg0.W) : (dats m ρ 0 c).share w = fullShare := by unfold Dat.share; split <;> rfl

omit [FloatOps F] in
/-- What a device holds before the region, put in the shape the region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨Hw, Ho⟩, Hlev, Hcr, -, HG⟩
  ihave Hc := (creds (F := F) c) $$ Hcr
  imodintro
  isplitl
  · isplitl [HG]; · iexact HG
    isplitl [Hc]; · iexact Hc
    isplitl [Hlev]; · iexact Hlev
    isplitl [Hw]; · iexact Hw
    iexact Ho
  · iempintro

/-- With the scratch buffers it is the body's start. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

/-- What the run's end is read from. -/
def final (c : Dev nD) : sProp 𝕄 :=
  iprop(unscopedSems0 c ∗ (((c : Thread nD τ).loc main_arg1) ↦{fullShare} (wA m c)) ∗ (((c : Thread nD τ).loc main_v1) ↦{fullShare} (outA m c)))

/-- The body's end gives back the scratch buffers and the semaphores, and leaves the final state. -/
theorem phi1_exit (c : Dev nD) :
    (dats m ρ 0 c).Φ (Fin.last cfg0.N) ⊢ iprop(final m c ∗ Pipeline.ownSems0 osem c ∗ Pipeline.scopedRest cfg0.spec c) := by
  rw [show (dats m ρ 0 c).Φ (Fin.last cfg0.N) = Φ₁ m c from rfl, scopedRest0_eq]
  unfold Φ₁ final
  iintro ⟨⟨Hb, Hw, Ho, Hl⟩, Hz⟩
  ihave Hs := (sems0_join (F := F) c) $$ [Hz Hl]
  · isplitl [Hz] <;> iassumption
  icases Hs with ⟨Hu, Hs⟩
  isplitl [Hu Hw Ho]
  · isplitl [Hu]; · iexact Hu
    isplitl [Hw]; · iexact Hw
    iexact Ho
  isplitl [Hs]; · iexact Hs
  unfold bufs
  iexact Hb

/-- The levels allow the waits of the window copies. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (by fin_cases w <;> fin_cases s <;> decide)
    · exact mayWait_rem c _ 0 0 (by fin_cases w <;> fin_cases s <;> decide) (by decide)

/-- What the run's end says of a device: the weight unchanged, the result. -/
def ends (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = outA m c

/-- A buffer owned in full holds in memory what it is owned at. -/
theorem read_one (s' : Phys nD τ sig (Elt F)) (ℓ : Loc nD τ sig) (f : Buf (Elt F) ℓ) :
    iprop((ℓ ↦{fullShare} f) ∗ SI s' : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  exact h.trans (by
    iintro ⟨%h, H⟩
    isplitr; · ipureintro; exact h () (Finset.mem_singleton_self _)
    iexact H)

/-- So at the end memory holds the weight as launched and the result. -/
theorem final_read (c : Dev nD) (s' : Phys nD τ sig (Elt F)) :
    iprop(final m c ∗ emp ∗ SI s' : sProp 𝕄) ⊢ |={Set.univ}=> iprop(⌜ends m c s'.mem⌝ ∗ SI s') := by
  unfold final
  iintro ⟨⟨Hu, Hw, Ho⟩, -, HSI⟩
  ihave H := (read_one s' _ _) $$ [Hw HSI]
  · isplitl [Hw]; · iexact Hw
    iexact HSI
  icases H with ⟨%h1, HSI⟩
  ihave H := (read_one s' _ _) $$ [Ho HSI]
  · isplitl [Ho]; · iexact Ho
    iexact HSI
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨h3, h1, h2⟩
  iexact HSI

def finalA (c : Dev nD) (w : Fin cfg0.W) : Buf (Elt F) ((cfg0.win w).arr.view.loc (c : Thread nD τ)) := (dats m ρ 0 c).arrAt w cfg0.N

set_option maxRecDepth 8000 in
/-- The launch's run: every window's array and every array outside the windows as stated, every semaphore at zero. -/
theorem run_region : θ_run defs (onTc (τ := τ) (main (F := F))) (s₀ m ρ) (fun r =>
    (∀ c : Dev nD, (∀ w : Fin cfg0.W, r.2.mem ((cfg0.win w).arr.view.loc (c : Thread nD τ)) = finalA m ρ c w) ∧ ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m) $$ [HX] with HG
      · unfold ER; iexact HX
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m ρ) (hout := phi1_exit m ρ)
    (QY := ends m)
    (hY := final_read m)
    (hQ := fun _ h hs => ⟨fun c => ⟨(h c).1, (h c).2.2⟩, sem_eq_zero hs fun c => (h c).2.2.1⟩)

/-- THE RUN: from any memory with zero counters every weakly fair execution of the four devices ends, with every
    argument unchanged, each device's result its block, and every counter at zero. -/
theorem run_main : θ_run defs (onTc (τ := τ) (main (F := F))) ⟨m, fun _ => 0, ρ⟩ (fun r => (∀ c : Dev nD,
      r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).2.2.2,
      ((h.1 c).1 0).trans ((dats (F := F) m ρ 0 c).arrAt_in 0 rfl _), (h.1 c).2.2.1,
      ((h.1 c).1 1).trans ((dats (F := F) m ρ 0 c).arrAt_in 1 rfl _),
      ((h.1 c).1 2).trans ((dats (F := F) m ρ 0 c).arrAt_in 2 rfl _)⟩, h.2⟩) (run_region m ρ)

end Cert.RingMM

end
-- ==== Proof.RefValue.lean ====
/- Hand-written: the reference's result array as one function of its arguments. The reference is one launch without a
   grid, so every window's block is its whole array and the run stores one whole block. -/
module

public import proofs.«01_k».proof.Proof.Gen.ReferenceIdeal.Value
public import Idealize.ShloMosaic.Lib.ValueIdx

@[expose] public section

noncomputable section

namespace Cert.RefMM

open Cert.ReferenceIdeal Cert.ReferenceIdeal.Gen Cert.ReferenceIdeal.Value
open Idealize.ShloMosaic Idealize.ShloMosaic.TcCoe Idealize.ShloMosaic.ValueIdx Idealize.SL.Sem
open Idealize.ShloMosaic.Pipeline (Dat)

variable {F : FTy → Type} [FloatOps F]

/-- The reference's result from its four arguments: the store's payload at the whole arrays and the two scale words. -/
def refOut (x : Vec F S4096x4096 .fp8e4m3) (w : Vec F S4096x8192 .f32) (sx sw : Vec F S1 .f32) :
    Vec F S4096x8192 .bf16 := k0_pay1 x w (sx (ix1 0)) (sw (ix1 0))

/-- A rank-two rectangle that starts at the origin starts at zero on every axis. -/
theorem origin2 : (![0, 0] : Fin 2 → Nat) = fun _ => 0 := funext fun a => by
  match a with
  | ⟨0, _⟩ => rfl
  | ⟨1, _⟩ => rfl

/-- What the run leaves in the output's staging buffer: one store of the whole block, whose payload reads the two
    matrices whole and each scale's one word. -/
theorem stored (c : Dev nD) (a0 : Memref sig .tc .vmem S4096x4096 .fp8e4m3) (h0 : a0.IsWhole)
    (a1 : Memref sig .tc .vmem S4096x8192 .f32) (h1 : a1.IsWhole) (a2 : Memref sig .tc .smem S1 .f32) (h2 : a2.IsWhole)
    (a3 : Memref sig .tc .smem S1 .f32) (h3 : a3.IsWhole) (a4 : Memref sig .tc .vmem S4096x8192 .bf16) (h4 : a4.IsWhole)
    (x : Vec F S4096x4096 .fp8e4m3) (w : Vec F S4096x8192 .f32) (sx sw : Vec F S1 .f32) :
    out0_A_4 c a0 h0 a1 h1 a2 h2 a3 h3 a4 h4 x w sx sw = refOut x w sx sw := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x))
        (View.readAt (Elt F) a1.view (Rect.unit ![0, 0] S4096x8192.size inb_S4096x8192_S4096x8192_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x8192 .bf16)) = _
  rw [View.canon_unit_zero origin2, View.readAt_eq_ld, View.readAt_eq_ld, View.readAt_eq_ld, View.readAt_eq_ld,
    h0.read_unread, h1.read_unread, h2.read_unread, h3.read_unread, View.ld_unit_zero origin2, View.ld_unit_zero origin2]
  exact congrArg₂ (k0_pay1 x w) (congrArg sx (funext fun a => by match a with | ⟨0, _⟩ => rfl))
    (congrArg sw (funext fun a => by match a with | ⟨0, _⟩ => rfl))

variable (m : (ℓ : Loc nD τ sig) → Buf (Elt F) ℓ) (ρ : Dev nD → PrngReg)

/-- The one grid point. -/
def pt : Fin cfg0.N := ⟨0, by decide⟩

/-- The left matrix's window holds the whole matrix. -/
theorem block_x (c : Dev nD) : iblk m c 0 pt = m ((c : Thread nD τ).loc main_arg0) := by
  funext j
  refine congrArg (m ((c : Thread nD τ).loc main_arg0)) ?_
  funext a; refine Fin.ext ?_
  show 0 * S4096x4096.size a + 1 * (j a).val = (j a).val; omega

/-- The right matrix's window holds the whole matrix. -/
theorem block_w (c : Dev nD) : iblk m c 1 pt = m ((c : Thread nD τ).loc main_arg1) := by
  funext j
  refine congrArg (m ((c : Thread nD τ).loc main_arg1)) ?_
  funext a; refine Fin.ext ?_
  show 0 * S4096x8192.size a + 1 * (j a).val = (j a).val; omega

/-- The first scale's window holds the scale. -/
theorem block_sx (c : Dev nD) : iblk m c 2 pt = m ((c : Thread nD τ).loc main_arg2) := by
  funext j
  refine congrArg (m ((c : Thread nD τ).loc main_arg2)) ?_
  funext a; refine Fin.ext ?_
  show 0 * S1.size a + 1 * (j a).val = (j a).val; omega

/-- The second scale's window holds the scale. -/
theorem block_sw (c : Dev nD) : iblk m c 3 pt = m ((c : Thread nD τ).loc main_arg3) := by
  funext j
  refine congrArg (m ((c : Thread nD τ).loc main_arg3)) ?_
  funext a; refine Fin.ext ?_
  show 0 * S1.size a + 1 * (j a).val = (j a).val; omega

/-- Reading a result array through the output window gives the array. -/
theorem block_y (f : Vec F S4096x8192 .bf16) : ((cfg0.win 4).blk pt).view.read (Elt F) f = f := by
  funext j
  refine congrArg f ?_
  funext a; refine Fin.ext ?_
  show 0 * S4096x8192.size a + 1 * (j a).val = (j a).val; omega

/-- The result array after the run. -/
theorem final (c : Dev nD) : (dats m 0 c).arrAt 4 cfg0.N
    = refOut (m ((c : Thread nD τ).loc main_arg0)) (m ((c : Thread nD τ).loc main_arg1))
        (m ((c : Thread nD τ).loc main_arg2)) (m ((c : Thread nD τ).loc main_arg3)) := by
  have h := blocks4 m c pt (by decide)
  rw [flushed4_A, stored, block_x, block_w, block_sx, block_sw] at h
  exact (block_y _).symm.trans h

/-- The reference's run: its result is `refOut` of the arguments, which it leaves as launched. -/
theorem run : θ_run defs (onTc (τ := τ) (main (F := F))) ⟨m, fun _ => 0, ρ⟩ fun r => ∀ c : Dev nD,
      r.2.mem ((c : Thread nD τ).loc main_v0)
        = refOut (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.RefMM

end
-- ==== Proof.Equation.lean ====
/- Hand-written: over the extended reals the kernel's result on a device is that device's columns of the reference's.
   Both sides are read at an element: one sum over the 4096 places of the contraction, times the two scales' product. -/
module

public import proofs.«01_k».proof.Proof.Contents
public import proofs.«01_k».proof.Proof.RefValue
public import Idealize.ShloMosaic.Lib.MatmulPlain
public import Idealize.ShloMosaic.Lib.Layout

@[expose] public section

noncomputable section

namespace Cert.RingMM

open Cert.KernelIdeal Cert.KernelIdeal.Gen
open Idealize.ShloMosaic Idealize.ShloMosaic.TcCoe
open Idealize.ShloMosaic.ValueIdx
open scoped BigOperators

/-- A product that starts from the zero array is the bare sum. -/
theorem zero_start {M N : ℕ} (r : Fin M) (n : Fin N) (v : EReal) :
    constant (F := Ideal) ⟨2, ![M, N]⟩ .f32 0x00000000#32 (ix2 r n) + v = v := by
  rw [constant_apply, Ideal.ofBits_zero_f32]
  exact zero_add v

/-- One element of the kernel's product: the row of the left block against the column of the right one, scaled. -/
theorem pay1_apply (s : Ideal .f32) (l : FVec Ideal S1x1024x4096 .fp8e4m3) (w : FVec Ideal S4096x1024 .fp8e4m3)
    (r : Fin 1024) (n : Fin 1024) :
    k0_pay1 (F := Ideal) s l w (ix2 r n) = (∑ k : Fin 4096, l (ix3 (0 : Fin 1) r k) * w (ix2 k n)) * s := by
  unfold k0_pay1
  rw [shapeCast_self]
  refine congrArg (· * s) ?_
  refine (Ideal.matmul_plain_apply (M := 1024) (K := 4096) (N := 1024) none _ _ _ r n).trans ?_
  refine (zero_start r n _).trans (Finset.sum_congr rfl fun k _ => ?_)
  rw [shapeCast_1ab_ab_apply]

/-- One element of a staged weight tile: the weight's own element, since a cast between floats changes no real. -/
theorem pay4_apply (t : FVec Ideal S1x4096x256 .f32) (k : Fin 4096) (n : Fin 256) :
    k0_pay4 (F := Ideal) t (ix2 k n) = t (ix3 (0 : Fin 1) k n) := by
  unfold k0_pay4
  rw [shapeCast_self]
  exact shapeCast_1ab_ab_apply t shapeCasts_S1x4096x256_S4096x256 k n

/-- One element of the reference's result. -/
theorem refOut_apply (x : FVec Ideal Cert.ReferenceIdeal.S4096x4096 .fp8e4m3) (w : FVec Ideal Cert.ReferenceIdeal.S4096x8192 .f32)
    (sx sw : FVec Ideal Cert.ReferenceIdeal.S1 .f32) (r : Fin 4096) (n : Fin 8192) :
    Cert.RefMM.refOut (F := Ideal) x w sx sw (ix2 r n)
      = (∑ k : Fin 4096, x (ix2 r k) * w (ix2 k n)) * (sx (ix1 0) * sw (ix1 0)) := by
  unfold Cert.RefMM.refOut Cert.ReferenceIdeal.Gen.k0_pay1
  refine congrArg (· * (sx (ix1 0) * sw (ix1 0))) ?_
  refine (Ideal.matmul_plain_apply (M := 4096) (K := 4096) (N := 8192) none _ _ _ r n).trans ?_
  exact zero_start r n _

variable (m : (ℓ : Loc nD τ sig) → Buf (Elt Ideal) ℓ)

/-- The half chunk of kind `d` at the level where device `c` computes device `o`'s rows comes from `o`. -/
theorem orig_lvlOf : ∀ (d : Fin 2) (o c : Dev nD), orig (lvlOf d.val o.val c).val d.val c = o := by decide

/-- An element of the narrowed weight is the weight's. -/
theorem w8A_apply (c : Dev nD) (k : Fin 4096) (n : Fin 2048) : w8A m c (ix2 k n) = wA m c (ix2 k n) := by
  refine (pay4_apply _ k _).trans ?_
  refine congrArg (wA m c) (congrArg (ix2 k) (Fin.ext ?_))
  show 256 * (n.val / 256) + n.val % 256 = n.val
  omega

/-- An element of the kernel's result on device `c`: the row of `x`, on the device that holds it, against the column
    of `c`'s weight, times the two scales. -/
theorem outA_apply (c o : Dev nD) (r' : Fin 1024) (r : Fin 4096) (hr : r.val = o.val * 1024 + r'.val) (n : Fin 2048) :
    outA m c (ix2 r n)
      = (∑ k : Fin 4096, xA m o (ix2 r' k) * wA m c (ix2 k n)) * (sxA m c (ix1 0) * swA m c (ix1 0)) := by
  have ho : r.val / 1024 = o.val := by have := r'.isLt; omega
  have hr' : r.val % 1024 = r'.val := by have := r'.isLt; omega
  have hd : r.val / 512 % 2 = r'.val / 512 := by have := r'.isLt; omega
  have hd2 : r'.val / 512 < 2 := by have := r'.isLt; omega
  refine (pay1_apply _ _ _ _ _).trans (congrArg (· * (sxA m c (ix1 0) * swA m c (ix1 0)))
    (Finset.sum_congr rfl fun k _ => congrArg₂ (· * ·) ?_ ?_))
  · show xA m (orig (lvlOf (r.val / 512 % 2) (r.val / 1024) c).val ((r.val % 1024) / 512) c) (ix2 ⟨r.val % 1024, _⟩ k) = _
    have e : orig (lvlOf (r.val / 512 % 2) (r.val / 1024) c).val ((r.val % 1024) / 512) c = o := by
      rw [hr', hd, ho]
      exact orig_lvlOf ⟨r'.val / 512, hd2⟩ o c
    rw [e]
    exact congrArg (fun q => xA m o (ix2 q k)) (Fin.ext hr')
  · refine (w8A_apply m c k _).trans (congrArg (wA m c) (congrArg (ix2 k) (Fin.ext ?_)))
    show 1024 * (n.val / 1024) + n.val % 1024 = n.val
    omega

/-- THE EQUATION. If every device holds its rows of `x`, its columns of `w` and the two scales, the kernel's result on
    device `c` is block `c`, by columns, of the reference's result on the whole arrays. -/
theorem equation (x : FVec Ideal Cert.ReferenceIdeal.S4096x4096 .fp8e4m3) (w : FVec Ideal Cert.ReferenceIdeal.S4096x8192 .f32)
    (sx sw : FVec Ideal Cert.ReferenceIdeal.S1 .f32)
    (hx : ∀ c, xA m c = Layout.block ⟨2, ![1024, 4096]⟩ ⟨2, ![4096, 4096]⟩ 0 4 c x)
    (hw : ∀ c, wA m c = Layout.block ⟨2, ![4096, 2048]⟩ ⟨2, ![4096, 8192]⟩ 1 4 c w)
    (hsx : ∀ c, sxA m c = sx) (hsw : ∀ c, swA m c = sw) (c : Dev nD) :
    outA m c = Layout.block ⟨2, ![4096, 2048]⟩ ⟨2, ![4096, 8192]⟩ 1 4 c (Cert.RefMM.refOut (F := Ideal) x w sx sw) := by
  funext i
  obtain ⟨r, n, rfl⟩ : ∃ (r : Fin 4096) (n : Fin 2048), i = ix2 r n := ⟨i 0, i 1, eq_ix2 i⟩
  have hc : c.val < 4 := c.isLt
  have hN : c.val * 2048 + n.val < 8192 := by have := n.isLt; omega
  rw [outA_apply m c ⟨r.val / 1024, by have := r.isLt; show _ < 4; omega⟩ ⟨r.val % 1024, Nat.mod_lt _ (by decide)⟩ r
    (by show r.val = r.val / 1024 * 1024 + r.val % 1024; omega) n, hx, hw, hsx, hsw]
  rw [Layout.block_apply]
  have hi : (Layout.Tiles.idx (S := ⟨2, ![4096, 2048]⟩) (T := ⟨2, ![4096, 8192]⟩) (a := 1) (k := 4) (by decide) c (ix2 r n))
      = ix2 r ⟨c.val * 2048 + n.val, hN⟩ := by
    funext a; apply Fin.ext
    match a with
    | ⟨0, _⟩ => rfl
    | ⟨1, _⟩ => rfl
  refine Eq.trans ?_ (congrArg (Cert.RefMM.refOut (F := Ideal) x w sx sw) hi.symm)
  rw [refOut_apply]
  refine congrArg (· * (sx (ix1 0) * sw (ix1 0))) (Finset.sum_congr rfl fun k _ => congrArg₂ (· * ·) ?_ ?_)
  · rw [Layout.block_apply]
    refine congrArg x ?_
    funext a; apply Fin.ext
    match a with
    | ⟨0, _⟩ => show r.val / 1024 * 1024 + r.val % 1024 = r.val; omega
    | ⟨1, _⟩ => rfl
  · rw [Layout.block_apply]
    refine congrArg w ?_
    funext a; apply Fin.ext
    match a with
    | ⟨0, _⟩ => rfl
    | ⟨1, _⟩ => rfl

end Cert.RingMM

end
-- ==== Proof.Same.lean ====
/- Hand-written: the word-level kernel and the kernel over the extended reals are one text, so at equal float values
   they are one program and a run of the one is a run of the other. -/
module

public import proofs.«01_k».proof.Proof.Gen.Kernel
public import proofs.«01_k».proof.Proof.Gen.KernelIdeal
public import Idealize.ShloMosaic.Adequacy
public import Idealize.ShloMosaic.Init

@[expose] public section

set_option maxRecDepth 65536
set_option maxHeartbeats 1000000

noncomputable section

namespace Cert.RingMM

open Idealize.ShloMosaic Idealize.ShloMosaic.TcCoe Idealize.SL.Sem

variable {F : FTy → Type} [FloatOps F]

/-- The two bodies are one. -/
theorem same_body : Cert.Kernel.cc0_body (F := F) = Cert.KernelIdeal.cc0_body (F := F) := rfl

/-- So the two tables of bodies are one: there is a single label. -/
theorem same_bodies : Cert.Kernel.defs₀ (F := F) = Cert.KernelIdeal.defs₀ (F := F) := by
  unfold Cert.Kernel.defs₀ Cert.KernelIdeal.defs₀
  refine congrArg (Defs.onTc (τ := Cert.KernelIdeal.τ)) ?_
  funext l a
  match l, a with
  | ⟨0, _⟩, (t, s) => rfl

/-- So the two tables with the pipelines adjoined are one. -/
theorem same_defs : Cert.Kernel.defs (F := F) = Cert.KernelIdeal.defs (F := F) :=
  congrArg (Pipeline.defs (Cert.KernelIdeal.pcfgs (F := F))) same_bodies

/-- So the two launches have the same runs. -/
theorem same_run (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      = θ_run (Cert.KernelIdeal.defs (F := F)) (onTc (τ := Cert.KernelIdeal.τ) (Cert.KernelIdeal.main (F := F)))
          ⟨m, fun _ => 0, ρ⟩ :=
  congrArg (fun D => θ_run D (onTc (τ := Cert.KernelIdeal.τ) (Cert.KernelIdeal.main (F := F))) ⟨m, fun _ => 0, ρ⟩)
    same_defs

end Cert.RingMM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Value
public import proofs.«01_k».proof.Proof.Gen.ReferenceIdeal.Frame
public import proofs.«01_k».proof.Proof.Launch
public import proofs.«01_k».proof.Proof.RefValue
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The word-level kernel runs to its end, leaves its arguments as launched and every semaphore at zero. -/
theorem frame_kernel : Cert.quiescent_Kernel := fun m ρ _ => by
  rw [Cert.RingMM.same_run]
  exact (θ_run Cert.KernelIdeal.defs _ _).mono (fun _ h => ⟨fun c => (h.1 c).2, h.2⟩)
    (Cert.RingMM.run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (Cert.RingMM.run_main (F := Ideal) m ρ)

/-- So does the reference. -/
theorem frame_reference : Cert.quiescent_ReferenceIdeal := fun m ρ _ =>
  Cert.ReferenceIdeal.Gen.frame (F := Ideal) m ρ

/-- On arguments that are one set of whole arrays laid out over the devices, the kernel's results are the columns of
    the reference's result. -/
theorem algebraic : Cert.algebraic_KernelIdeal_ReferenceIdeal := fun m g m' g' _ h =>
  ⟨_, (θ_run Cert.KernelIdeal.defs _ _).mono
      (fun r hr c => ⟨(hr.1 c).1.trans (Cert.RingMM.equation m _ _ _ _ (fun c => (h c).1) (fun c => (h c).2.1)
        (fun c => (h c).2.2.1) (fun c => (h c).2.2.2) c), (hr.1 c).2⟩)
      (Cert.RingMM.run_main (F := Ideal) m g),
    (θ_run Cert.ReferenceIdeal.defs _ _).mono (fun r hr => hr 0) (Cert.RefMM.run (F := Ideal) m' g')⟩

/-- The certificate's claims, all five. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
